-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_count" .f32 0x37638E39#32 ((73728⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x4x2048x3 : Shape := ⟨4, ![2, 4, 2048, 3]⟩
abbrev S2x2048 : Shape := ⟨2, ![2, 2048]⟩
abbrev S2x4x2048x9 : Shape := ⟨4, ![2, 4, 2048, 9]⟩
abbrev S_ : Shape := ⟨0, ![]⟩

class Facts : Prop where
  bcast_S_S2x4x2048x3 : S_.BroadcastsInDim S2x4x2048x3 (![] : Fin 0 → Fin S2x4x2048x3.rank)
  bcast_S_S2x2048 : S_.BroadcastsInDim S2x2048 (![] : Fin 0 → Fin S2x2048.rank)
  bcast_S_S2x4x2048x9 : S_.BroadcastsInDim S2x4x2048x9 (![] : Fin 0 → Fin S2x4x2048x9.rank)

variable [Facts]

def fn {F : FTy → Type} [FloatOps F] (main_arg0 : FVec F S2x4x2048x3 .f32) (main_arg1 : FVec F S2x2048 .f32) (main_arg2 : FVec F S2x4x2048x9 .f32) (main_arg3 : FVec F S2x4x2048x9 .f32) : IVec S2x4x2048x3 1 × IVec S2x4x2048x3 1 × IVec S2x2048 1 × IVec S2x4x2048x9 1 × IVec S2x4x2048x9 1 :=
  let main_cst : FVec F S_ .f32 := constant S_ .f32 0x00000000#32
  let main_v0 : FVec F S2x4x2048x3 .f32 := broadcastInDim S2x4x2048x3 ![] bcast_S_S2x4x2048x3 main_cst
  let main_v1 : IVec S2x4x2048x3 1 := cmpf .oge main_arg0 main_v0
  let main_cst_0 : FVec F S_ .f32 := constant S_ .f32 0x3F800000#32
  let main_v2 : FVec F S2x4x2048x3 .f32 := broadcastInDim S2x4x2048x3 ![] bcast_S_S2x4x2048x3 main_cst_0
  let main_v3 : IVec S2x4x2048x3 1 := cmpf .olt main_arg0 main_v2
  let main_v4 : FVec F S2x2048 .f32 := Host.absf main_arg1
  let main_cst_1 : FVec F S_ .f32 := constant S_ .f32 0x7F800000#32
  let main_v5 : FVec F S2x2048 .f32 := broadcastInDim S2x2048 ![] bcast_S_S2x2048 main_cst_1
  let main_v6 : IVec S2x2048 1 := cmpf .olt main_v4 main_v5
  let main_v7 : FVec F S2x4x2048x9 .f32 := Host.absf main_arg2
  let main_cst_2 : FVec F S_ .f32 := constant S_ .f32 0x7F800000#32
  let main_v8 : FVec F S2x4x2048x9 .f32 := broadcastInDim S2x4x2048x9 ![] bcast_S_S2x4x2048x9 main_cst_2
  let main_v9 : IVec S2x4x2048x9 1 := cmpf .olt main_v7 main_v8
  let main_v10 : FVec F S2x4x2048x9 .f32 := Host.absf main_arg3
  let main_cst_3 : FVec F S_ .f32 := constant S_ .f32 0x7F800000#32
  let main_v11 : FVec F S2x4x2048x9 .f32 := broadcastInDim S2x4x2048x9 ![] bcast_S_S2x4x2048x9 main_cst_3
  let main_v12 : IVec S2x4x2048x9 1 := cmpf .olt main_v10 main_v11
  (main_v1, main_v3, main_v6, main_v9, main_v12)
-- ==== Kernel.lean ====
abbrev S2x4x2048x3 : Shape := ⟨4, ![2, 4, 2048, 3]⟩
abbrev S2x2048 : Shape := ⟨2, ![2, 2048]⟩
abbrev S2x4x2048x9 : Shape := ⟨4, ![2, 4, 2048, 9]⟩
abbrev S2x1x2048 : Shape := ⟨3, ![2, 1, 2048]⟩
abbrev S1x1 : Shape := ⟨2, ![1, 1]⟩
abbrev S1x1x2048x3 : Shape := ⟨4, ![1, 1, 2048, 3]⟩
abbrev S1x1x2048x9 : Shape := ⟨4, ![1, 1, 2048, 9]⟩
abbrev S1x1x2048 : Shape := ⟨3, ![1, 1, 2048]⟩
abbrev S2048x3 : Shape := ⟨2, ![2048, 3]⟩
abbrev S3x2048 : Shape := ⟨2, ![3, 2048]⟩
abbrev S2048x9 : Shape := ⟨2, ![2048, 9]⟩
abbrev S9x2048 : Shape := ⟨2, ![9, 2048]⟩
abbrev S32x2048 : Shape := ⟨2, ![32, 2048]⟩
abbrev S1x2048 : Shape := ⟨2, ![1, 2048]⟩
abbrev S32x1x2048 : Shape := ⟨3, ![32, 1, 2048]⟩
abbrev S1x32x2048 : Shape := ⟨3, ![1, 32, 2048]⟩
abbrev S32x32x2048 : Shape := ⟨3, ![32, 32, 2048]⟩
abbrev S1024x2048 : Shape := ⟨2, ![1024, 2048]⟩
abbrev S13x2048 : Shape := ⟨2, ![13, 2048]⟩
abbrev S13x1x2048 : Shape := ⟨3, ![13, 1, 2048]⟩
abbrev S13x32x2048 : Shape := ⟨3, ![13, 32, 2048]⟩
abbrev S416x2048 : Shape := ⟨2, ![416, 2048]⟩
abbrev S416x1024 : Shape := ⟨2, ![416, 1024]⟩
abbrev S13x32x1024 : Shape := ⟨3, ![13, 32, 1024]⟩
abbrev S1x32x1024 : Shape := ⟨3, ![1, 32, 1024]⟩
abbrev S32x1024 : Shape := ⟨2, ![32, 1024]⟩
abbrev S32x1 : Shape := ⟨2, ![32, 1]⟩
abbrev S3x32x1024 : Shape := ⟨3, ![3, 32, 1024]⟩
abbrev S1x32x1 : Shape := ⟨3, ![1, 32, 1]⟩
abbrev S96x1024 : Shape := ⟨2, ![96, 1024]⟩
abbrev S96x2048 : Shape := ⟨2, ![96, 2048]⟩
abbrev S3x32x2048 : Shape := ⟨3, ![3, 32, 2048]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 12
  | .smem => 1
  | _ => 0

abbrev bufTy : (tb : Table) → Fin (tcTables nBuf tb) → BufTy
  | .hbm, ⟨0, _⟩ => ⟨S2x4x2048x3, .f32⟩
  | .hbm, ⟨1, _⟩ => ⟨S2x2048, .f32⟩
  | .hbm, ⟨2, _⟩ => ⟨S2x4x2048x9, .f32⟩
  | .hbm, ⟨3, _⟩ => ⟨S2x4x2048x9, .f32⟩
  | .hbm, ⟨4, _⟩ => ⟨S2x1x2048, .f32⟩
  | .hbm, ⟨5, _⟩ => ⟨S1x1, .f32⟩
  | .hbm, ⟨6, _⟩ => ⟨S_, .f32⟩
  | .local _ .vmem, ⟨0, _⟩ => ⟨S1x1x2048x3, .f32⟩
  | .local _ .vmem, ⟨1, _⟩ => ⟨S1x1x2048x3, .f32⟩
  | .local _ .vmem, ⟨2, _⟩ => ⟨S1x1x2048x3, .f32⟩
  | .local _ .vmem, ⟨3, _⟩ => ⟨S1x1x2048x3, .f32⟩
  | .local _ .vmem, ⟨4, _⟩ => ⟨S1x1x2048x9, .f32⟩
  | .local _ .vmem, ⟨5, _⟩ => ⟨S1x1x2048x9, .f32⟩
  | .local _ .vmem, ⟨6, _⟩ => ⟨S1x1x2048x9, .f32⟩
  | .local _ .vmem, ⟨7, _⟩ => ⟨S1x1x2048x9, .f32⟩
  | .local _ .vmem, ⟨8, _⟩ => ⟨S1x1x2048x9, .f32⟩
  | .local _ .vmem, ⟨9, _⟩ => ⟨S1x1x2048x9, .f32⟩
  | .local _ .vmem, ⟨10, _⟩ => ⟨S1x1x2048, .f32⟩
  | .local _ .vmem, ⟨11, _⟩ => ⟨S1x1x2048, .f32⟩
  | .local _ .smem, ⟨0, _⟩ => ⟨S1x1, .f32⟩
  | _, _ => ⟨S2x4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_130 : BitVec 32 := 0#32
  let v586 : BitVec 1 := Scalar.cmpi .eq arg0 c0_i32_130
  let v587 : BitVec 32 := Scalar.extui v586
  let c0_i32_131 : BitVec 32 := 0#32
  let v588 : BitVec 1 := Scalar.cmpi .ne v587 c0_i32_131
  v588

def k0_cond2 (i : grid0.Coords) : BitVec 1 :=
  let arg0 : BitVec 32 := BitVec.ofNat 32 (i 0).val
  let c0_i32_132 : BitVec 32 := 0#32
  let v589 : BitVec 1 := Scalar.cmpi .sgt arg0 c0_i32_132
  let v590 : BitVec 32 := Scalar.extui v589
  let c0_i32_133 : BitVec 32 := 0#32
  let v591 : BitVec 1 := Scalar.cmpi .ne v590 c0_i32_133
  v591

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi v26 c0_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.addi v26 c2_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi v26 c0_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_3 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.addi v26 c1_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_4 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi v26 c0_i32_10
  let c0_i32_11 : BitVec 32 := 0#32
  let c0_i32_12 : BitVec 32 := 0#32
  let c0_i32_13 : BitVec 32 := 0#32
  ![v16.toNat, v27.toNat, c0_i32_11.toNat, c0_i32_12.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x9 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_count" => some ((73728⁻¹ : ℝ) : EReal)
  | _ => none
-- ==== ReferenceIdeal.lean ====
abbrev S2x4x2048x3 : Shape := ⟨4, ![2, 4, 2048, 3]⟩
abbrev S2x2048 : Shape := ⟨2, ![2, 2048]⟩
abbrev S2x4x2048x9 : Shape := ⟨4, ![2, 4, 2048, 9]⟩
abbrev S_ : Shape := ⟨0, ![]⟩
abbrev S2x2x2048x3 : Shape := ⟨4, ![2, 2, 2048, 3]⟩
abbrev S4x2048x3 : Shape := ⟨3, ![4, 2048, 3]⟩
abbrev S2x2x2048x9 : Shape := ⟨4, ![2, 2, 2048, 9]⟩
abbrev S4x2048x3x3 : Shape := ⟨4, ![4, 2048, 3, 3]⟩
abbrev S2x1x2048 : Shape := ⟨3, ![2, 1, 2048]⟩
abbrev S2x2x2048 : Shape := ⟨3, ![2, 2, 2048]⟩
abbrev S4x2048 : Shape := ⟨2, ![4, 2048]⟩
abbrev S4x2048x3x1 : Shape := ⟨4, ![4, 2048, 3, 1]⟩
abbrev S27 : Shape := ⟨1, ![27]⟩
abbrev S27x1 : Shape := ⟨2, ![27, 1]⟩
abbrev S27x3 : Shape := ⟨2, ![27, 3]⟩
abbrev S4x2048x1x3 : Shape := ⟨4, ![4, 2048, 1, 3]⟩
abbrev S1x1x27x3 : Shape := ⟨4, ![1, 1, 27, 3]⟩
abbrev S4x2048x27x3 : Shape := ⟨4, ![4, 2048, 27, 3]⟩
abbrev S4 : Shape := ⟨1, ![4]⟩
abbrev S4x1x1 : Shape := ⟨3, ![4, 1, 1]⟩
abbrev S4x2048x27x1 : Shape := ⟨4, ![4, 2048, 27, 1]⟩
abbrev S4x2048x27 : Shape := ⟨3, ![4, 2048, 27]⟩
abbrev S4x2048x3x1x1 : Shape := ⟨5, ![4, 2048, 3, 1, 1]⟩
abbrev S4x2048x1x3x1 : Shape := ⟨5, ![4, 2048, 1, 3, 1]⟩
abbrev S4x2048x1x1x3 : Shape := ⟨5, ![4, 2048, 1, 1, 3]⟩
abbrev S4x2048x3x3x1 : Shape := ⟨5, ![4, 2048, 3, 3, 1]⟩
abbrev S4x2048x3x3x3 : Shape := ⟨5, ![4, 2048, 3, 3, 3]⟩
abbrev S4x2048x1 : Shape := ⟨3, ![4, 2048, 1]⟩
abbrev S4x125x125x125x3 : Shape := ⟨5, ![4, 125, 125, 125, 3]⟩
abbrev S4x2048x27x4 : Shape := ⟨4, ![4, 2048, 27, 4]⟩
abbrev S4x125x125x125 : Shape := ⟨4, ![4, 125, 125, 125]⟩
abbrev S4x125x125x125x1 : Shape := ⟨5, ![4, 125, 125, 125, 1]⟩
abbrev S3x3 : Shape := ⟨2, ![3, 3]⟩
abbrev S1x1x3x3 : Shape := ⟨4, ![1, 1, 3, 3]⟩

abbrev nBuf : Space → Nat
  | .hbm => 390
  | .vmem => 0
  | .smem => 0
  | _ => 0

abbrev hbmTy0_0 (i : Nat) : BufTy := match i % 128 with
  | 0 => ⟨S2x4x2048x3, .f32⟩
  | 1 => ⟨S2x2048, .f32⟩
  | 2 => ⟨S2x4x2048x9, .f32⟩
  | 3 => ⟨S2x4x2048x9, .f32⟩
  | 4 => ⟨S_, .f32⟩
  | 5 => ⟨S2x4x2048x3, .f32⟩
  | 6 => ⟨S2x4x2048x3, .f32⟩
  | 7 => ⟨S_, .f32⟩
  | 8 => ⟨S2x4x2048x3, .f32⟩
  | 9 => ⟨S2x4x2048x3, .f32⟩
  | 10 => ⟨S2x2x2048x3, .f32⟩
  | 11 => ⟨S4x2048x3, .f32⟩
  | 12 => ⟨S2x2x2048x3, .f32⟩
  | 13 => ⟨S2x2x2048x3, .f32⟩
  | 14 => ⟨S2x2x2048x3, .f32⟩
  | 15 => ⟨S_, .f32⟩
  | 16 => ⟨S2x2x2048x3, .f32⟩
  | 17 => ⟨S2x2x2048x3, .f32⟩
  | 18 => ⟨S4x2048x3, .f32⟩
  | 19 => ⟨S2x2x2048x9, .f32⟩
  | 20 => ⟨S4x2048x3x3, .f32⟩
  | 21 => ⟨S2x2x2048x9, .f32⟩
  | 22 => ⟨S4x2048x3x3, .f32⟩
  | 23 => ⟨S2x2x2048x9, .f32⟩
  | 24 => ⟨S4x2048x3x3, .f32⟩
  | 25 => ⟨S2x1x2048, .f32⟩
  | 26 => ⟨S2x2x2048, .f32⟩
  | 27 => ⟨S4x2048, .f32⟩
  | 28 => ⟨S_, .f32⟩
  | 29 => ⟨S4x2048, .f32⟩
  | 30 => ⟨S4x2048, .f32⟩
  | 31 => ⟨S_, .f32⟩
  | 32 => ⟨S4x2048x3, .f32⟩
  | 33 => ⟨S4x2048x3, .f32⟩
  | 34 => ⟨S_, .f32⟩
  | 35 => ⟨S4x2048x3, .f32⟩
  | 36 => ⟨S4x2048x3, .f32⟩
  | 37 => ⟨S4x2048x3, .i32⟩
  | 38 => ⟨S4x2048x3, .f32⟩
  | 39 => ⟨S4x2048x3, .f32⟩
  | 40 => ⟨S_, .f32⟩
  | 41 => ⟨S4x2048x3, .f32⟩
  | 42 => ⟨S4x2048x3, .f32⟩
  | 43 => ⟨S4x2048x3, .f32⟩
  | 44 => ⟨S_, .f32⟩
  | 45 => ⟨S4x2048x3, .f32⟩
  | 46 => ⟨S4x2048x3, .f32⟩
  | 47 => ⟨S_, .f32⟩
  | 48 => ⟨S4x2048x3, .f32⟩
  | 49 => ⟨S4x2048x3, .f32⟩
  | 50 => ⟨S4x2048x3, .f32⟩
  | 51 => ⟨S_, .f32⟩
  | 52 => ⟨S4x2048x3, .f32⟩
  | 53 => ⟨S4x2048x3, .f32⟩
  | 54 => ⟨S_, .f32⟩
  | 55 => ⟨S4x2048x3, .f32⟩
  | 56 => ⟨S4x2048x3, .f32⟩
  | 57 => ⟨S4x2048x3, .f32⟩
  | 58 => ⟨S_, .f32⟩
  | 59 => ⟨S4x2048x3, .f32⟩
  | 60 => ⟨S4x2048x3, .f32⟩
  | 61 => ⟨S4x2048x3x1, .f32⟩
  | 62 => ⟨S4x2048x3x1, .f32⟩
  | 63 => ⟨S4x2048x3x1, .f32⟩
  | 64 => ⟨S4x2048x3x3, .f32⟩
  | 65 => ⟨S_, .f32⟩
  | 66 => ⟨S4x2048x3, .f32⟩
  | 67 => ⟨S4x2048x3, .f32⟩
  | 68 => ⟨S_, .f32⟩
  | 69 => ⟨S4x2048x3, .f32⟩
  | 70 => ⟨S4x2048x3, .f32⟩
  | 71 => ⟨S_, .f32⟩
  | 72 => ⟨S4x2048x3, .f32⟩
  | 73 => ⟨S4x2048x3, .f32⟩
  | 74 => ⟨S_, .f32⟩
  | 75 => ⟨S4x2048x3, .f32⟩
  | 76 => ⟨S4x2048x3, .f32⟩
  | 77 => ⟨S4x2048x3x1, .f32⟩
  | 78 => ⟨S4x2048x3x1, .f32⟩
  | 79 => ⟨S4x2048x3x1, .f32⟩
  | 80 => ⟨S4x2048x3x3, .f32⟩
  | 81 => ⟨S27, .i32⟩
  | 82 => ⟨S_, .i32⟩
  | 83 => ⟨S_, .i32⟩
  | 84 => ⟨S27, .i32⟩
  | 85 => ⟨S27, .i32⟩
  | 86 => ⟨S27, .i32⟩
  | 87 => ⟨S_, .i32⟩
  | 88 => ⟨S27, .i32⟩
  | 89 => ⟨S27, .i1⟩
  | 90 => ⟨S27, .i32⟩
  | 91 => ⟨S27, .i32⟩
  | 92 => ⟨S_, .i32⟩
  | 93 => ⟨S27, .i32⟩
  | 94 => ⟨S27, .i1⟩
  | 95 => ⟨S27, .i1⟩
  | 96 => ⟨S_, .i32⟩
  | 97 => ⟨S27, .i32⟩
  | 98 => ⟨S27, .i32⟩
  | 99 => ⟨S27, .i32⟩
  | 100 => ⟨S_, .i32⟩
  | 101 => ⟨S_, .i32⟩
  | 102 => ⟨S27, .i32⟩
  | 103 => ⟨S27, .i32⟩
  | 104 => ⟨S27, .i32⟩
  | 105 => ⟨S_, .i32⟩
  | 106 => ⟨S27, .i32⟩
  | 107 => ⟨S27, .i1⟩
  | 108 => ⟨S27, .i32⟩
  | 109 => ⟨S27, .i32⟩
  | 110 => ⟨S_, .i32⟩
  | 111 => ⟨S27, .i32⟩
  | 112 => ⟨S27, .i1⟩
  | 113 => ⟨S27, .i1⟩
  | 114 => ⟨S_, .i32⟩
  | 115 => ⟨S27, .i32⟩
  | 116 => ⟨S27, .i32⟩
  | 117 => ⟨S27, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S27, .i32⟩
  | 125 => ⟨S27, .i32⟩
  | 126 => ⟨S_, .i32⟩
  | 127 => ⟨S27, .i32⟩
  | _ => ⟨S2x4x2048x3, .f32⟩

abbrev hbmTy0_1 (i : Nat) : BufTy := match i % 128 with
  | 0 => ⟨S27, .i1⟩
  | 1 => ⟨S_, .i32⟩
  | 2 => ⟨S27, .i32⟩
  | 3 => ⟨S27, .i1⟩
  | 4 => ⟨S_, .i32⟩
  | 5 => ⟨S_, .i1⟩
  | 6 => ⟨S27, .i1⟩
  | 7 => ⟨S27, .i1⟩
  | 8 => ⟨S27, .i1⟩
  | 9 => ⟨S27, .i32⟩
  | 10 => ⟨S27, .i32⟩
  | 11 => ⟨S27, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S27, .i32⟩
  | 19 => ⟨S27, .i32⟩
  | 20 => ⟨S_, .i32⟩
  | 21 => ⟨S27, .i32⟩
  | 22 => ⟨S27, .i1⟩
  | 23 => ⟨S_, .i32⟩
  | 24 => ⟨S27, .i32⟩
  | 25 => ⟨S27, .i1⟩
  | 26 => ⟨S_, .i32⟩
  | 27 => ⟨S_, .i1⟩
  | 28 => ⟨S27, .i1⟩
  | 29 => ⟨S27, .i1⟩
  | 30 => ⟨S27, .i1⟩
  | 31 => ⟨S27, .i32⟩
  | 32 => ⟨S27, .i32⟩
  | 33 => ⟨S27, .i32⟩
  | 34 => ⟨S27x1, .i32⟩
  | 35 => ⟨S27x1, .i32⟩
  | 36 => ⟨S27x1, .i32⟩
  | 37 => ⟨S27x3, .i32⟩
  | 38 => ⟨S4x2048x1x3, .i32⟩
  | 39 => ⟨S1x1x27x3, .i32⟩
  | 40 => ⟨S4x2048x27x3, .i32⟩
  | 41 => ⟨S4x2048x27x3, .i32⟩
  | 42 => ⟨S4x2048x27x3, .i32⟩
  | 43 => ⟨S4, .i32⟩
  | 44 => ⟨S4x1x1, .i32⟩
  | 45 => ⟨S4x2048x27x1, .i32⟩
  | 46 => ⟨S4x2048x27, .i32⟩
  | 47 => ⟨S4x2048x27x1, .i32⟩
  | 48 => ⟨S4x2048x27, .i32⟩
  | 49 => ⟨S4x2048x27x1, .i32⟩
  | 50 => ⟨S4x2048x27, .i32⟩
  | 51 => ⟨S4x2048x1x3, .f32⟩
  | 52 => ⟨S4x2048x3, .f32⟩
  | 53 => ⟨S4x2048x3x1x1, .f32⟩
  | 54 => ⟨S4x2048x1x3, .f32⟩
  | 55 => ⟨S4x2048x3, .f32⟩
  | 56 => ⟨S4x2048x1x3x1, .f32⟩
  | 57 => ⟨S4x2048x1x3, .f32⟩
  | 58 => ⟨S4x2048x3, .f32⟩
  | 59 => ⟨S4x2048x1x1x3, .f32⟩
  | 60 => ⟨S4x2048x1x3, .f32⟩
  | 61 => ⟨S4x2048x3, .f32⟩
  | 62 => ⟨S4x2048x3x1x1, .f32⟩
  | 63 => ⟨S4x2048x1x3, .f32⟩
  | 64 => ⟨S4x2048x3, .f32⟩
  | 65 => ⟨S4x2048x1x3x1, .f32⟩
  | 66 => ⟨S4x2048x1x3, .f32⟩
  | 67 => ⟨S4x2048x3, .f32⟩
  | 68 => ⟨S4x2048x1x1x3, .f32⟩
  | 69 => ⟨S4x2048x3x3x1, .f32⟩
  | 70 => ⟨S4x2048x3x3x1, .f32⟩
  | 71 => ⟨S4x2048x3x3x1, .f32⟩
  | 72 => ⟨S4x2048x3x3x3, .f32⟩
  | 73 => ⟨S4x2048x3x3x3, .f32⟩
  | 74 => ⟨S4x2048x3x3x3, .f32⟩
  | 75 => ⟨S4x2048x27, .f32⟩
  | 76 => ⟨S27x3, .f32⟩
  | 77 => ⟨S4x2048x1x3, .f32⟩
  | 78 => ⟨S1x1x27x3, .f32⟩
  | 79 => ⟨S4x2048x27x3, .f32⟩
  | 80 => ⟨S4x2048x27x3, .f32⟩
  | 81 => ⟨S4x2048x27x3, .f32⟩
  | 82 => ⟨S_, .f32⟩
  | 83 => ⟨S4x2048x27x3, .f32⟩
  | 84 => ⟨S4x2048x27x3, .f32⟩
  | 85 => ⟨S4x2048x27x3, .f32⟩
  | 86 => ⟨S4x2048x1, .f32⟩
  | 87 => ⟨S4x2048x27, .f32⟩
  | 88 => ⟨S4x2048x27, .f32⟩
  | 89 => ⟨S4x2048x27x1, .f32⟩
  | 90 => ⟨S4x2048x1x3, .f32⟩
  | 91 => ⟨S4x2048x27x3, .f32⟩
  | 92 => ⟨S4x2048x27x3, .f32⟩
  | 93 => ⟨S4x2048x27x3, .f32⟩
  | 94 => ⟨S4x2048x27x3, .f32⟩
  | 95 => ⟨S_, .f32⟩
  | 96 => ⟨S4x125x125x125x3, .f32⟩
  | 97 => ⟨S_, .i32⟩
  | 98 => ⟨S4x1x1, .i32⟩
  | 99 => ⟨S4x1x1, .i1⟩
  | 100 => ⟨S_, .i32⟩
  | 101 => ⟨S4x1x1, .i32⟩
  | 102 => ⟨S4x1x1, .i32⟩
  | 103 => ⟨S4x1x1, .i32⟩
  | 104 => ⟨S_, .i32⟩
  | 105 => ⟨S4x2048x27, .i32⟩
  | 106 => ⟨S4x2048x27, .i1⟩
  | 107 => ⟨S_, .i32⟩
  | 108 => ⟨S4x2048x27, .i32⟩
  | 109 => ⟨S4x2048x27, .i32⟩
  | 110 => ⟨S4x2048x27, .i32⟩
  | 111 => ⟨S_, .i32⟩
  | 112 => ⟨S4x2048x27, .i32⟩
  | 113 => ⟨S4x2048x27, .i1⟩
  | 114 => ⟨S_, .i32⟩
  | 115 => ⟨S4x2048x27, .i32⟩
  | 116 => ⟨S4x2048x27, .i32⟩
  | 117 => ⟨S4x2048x27, .i32⟩
  | 118 => ⟨S_, .i32⟩
  | 119 => ⟨S4x2048x27, .i32⟩
  | 120 => ⟨S4x2048x27, .i1⟩
  | 121 => ⟨S_, .i32⟩
  | 122 => ⟨S4x2048x27, .i32⟩
  | 123 => ⟨S4x2048x27, .i32⟩
  | 124 => ⟨S4x2048x27, .i32⟩
  | 125 => ⟨S4x2048x27, .i32⟩
  | 126 => ⟨S4x2048x27x1, .i32⟩
  | 127 => ⟨S4x2048x27x1, .i32⟩
  | _ => ⟨S2x4x2048x3, .f32⟩

abbrev hbmTy0_2 (i : Nat) : BufTy := match i % 128 with
  | 0 => ⟨S4x2048x27x1, .i32⟩
  | 1 => ⟨S4x2048x27x1, .i32⟩
  | 2 => ⟨S4x2048x27x4, .i32⟩
  | 3 => ⟨S4x125x125x125x3, .f32⟩
  | 4 => ⟨S_, .f32⟩
  | 5 => ⟨S4x125x125x125, .f32⟩
  | 6 => ⟨S_, .i32⟩
  | 7 => ⟨S4x1x1, .i32⟩
  | 8 => ⟨S4x1x1, .i1⟩
  | 9 => ⟨S_, .i32⟩
  | 10 => ⟨S4x1x1, .i32⟩
  | 11 => ⟨S4x1x1, .i32⟩
  | 12 => ⟨S4x1x1, .i32⟩
  | 13 => ⟨S_, .i32⟩
  | 14 => ⟨S4x2048x27, .i32⟩
  | 15 => ⟨S4x2048x27, .i1⟩
  | 16 => ⟨S_, .i32⟩
  | 17 => ⟨S4x2048x27, .i32⟩
  | 18 => ⟨S4x2048x27, .i32⟩
  | 19 => ⟨S4x2048x27, .i32⟩
  | 20 => ⟨S_, .i32⟩
  | 21 => ⟨S4x2048x27, .i32⟩
  | 22 => ⟨S4x2048x27, .i1⟩
  | 23 => ⟨S_, .i32⟩
  | 24 => ⟨S4x2048x27, .i32⟩
  | 25 => ⟨S4x2048x27, .i32⟩
  | 26 => ⟨S4x2048x27, .i32⟩
  | 27 => ⟨S_, .i32⟩
  | 28 => ⟨S4x2048x27, .i32⟩
  | 29 => ⟨S4x2048x27, .i1⟩
  | 30 => ⟨S_, .i32⟩
  | 31 => ⟨S4x2048x27, .i32⟩
  | 32 => ⟨S4x2048x27, .i32⟩
  | 33 => ⟨S4x2048x27, .i32⟩
  | 34 => ⟨S4x2048x27, .i32⟩
  | 35 => ⟨S4x2048x27x1, .i32⟩
  | 36 => ⟨S4x2048x27x1, .i32⟩
  | 37 => ⟨S4x2048x27x1, .i32⟩
  | 38 => ⟨S4x2048x27x1, .i32⟩
  | 39 => ⟨S4x2048x27x4, .i32⟩
  | 40 => ⟨S4x125x125x125, .f32⟩
  | 41 => ⟨S_, .f32⟩
  | 42 => ⟨S4x125x125x125, .f32⟩
  | 43 => ⟨S4x125x125x125, .i1⟩
  | 44 => ⟨S_, .f32⟩
  | 45 => ⟨S4x125x125x125, .f32⟩
  | 46 => ⟨S4x125x125x125, .f32⟩
  | 47 => ⟨S4x125x125x125x1, .f32⟩
  | 48 => ⟨S4x125x125x125x3, .f32⟩
  | 49 => ⟨S4x125x125x125x3, .f32⟩
  | 50 => ⟨S4x2048x3x3x1, .f32⟩
  | 51 => ⟨S4x2048x3x3x1, .f32⟩
  | 52 => ⟨S4x2048x3x3x1, .f32⟩
  | 53 => ⟨S4x2048x3x3x3, .f32⟩
  | 54 => ⟨S4x2048x3x3x3, .f32⟩
  | 55 => ⟨S4x2048x3x3x3, .f32⟩
  | 56 => ⟨S4x2048x27, .f32⟩
  | 57 => ⟨S4x2048x3x3x1, .f32⟩
  | 58 => ⟨S4x2048x3x3x1, .f32⟩
  | 59 => ⟨S4x2048x3x3x1, .f32⟩
  | 60 => ⟨S4x2048x3x3x3, .f32⟩
  | 61 => ⟨S4x2048x3x3x3, .f32⟩
  | 62 => ⟨S4x2048x3x3x3, .f32⟩
  | 63 => ⟨S4x2048x27, .f32⟩
  | 64 => ⟨S4x2048x3x3x1, .f32⟩
  | 65 => ⟨S4x2048x3x3x1, .f32⟩
  | 66 => ⟨S4x2048x3x3x1, .f32⟩
  | 67 => ⟨S4x2048x3x3x3, .f32⟩
  | 68 => ⟨S4x2048x3x3x3, .f32⟩
  | 69 => ⟨S4x2048x3x3x3, .f32⟩
  | 70 => ⟨S4x2048x27, .f32⟩
  | 71 => ⟨S4x2048x27x1, .f32⟩
  | 72 => ⟨S4x2048x27x1, .f32⟩
  | 73 => ⟨S4x2048x27x1, .f32⟩
  | 74 => ⟨S4x2048x27x3, .f32⟩
  | 75 => ⟨S_, .f32⟩
  | 76 => ⟨S4x2048x27x3, .f32⟩
  | 77 => ⟨S4x2048x27x3, .f32⟩
  | 78 => ⟨S_, .i32⟩
  | 79 => ⟨S4x1x1, .i32⟩
  | 80 => ⟨S4x1x1, .i1⟩
  | 81 => ⟨S_, .i32⟩
  | 82 => ⟨S4x1x1, .i32⟩
  | 83 => ⟨S4x1x1, .i32⟩
  | 84 => ⟨S4x1x1, .i32⟩
  | 85 => ⟨S_, .i32⟩
  | 86 => ⟨S4x2048x27, .i32⟩
  | 87 => ⟨S4x2048x27, .i1⟩
  | 88 => ⟨S_, .i32⟩
  | 89 => ⟨S4x2048x27, .i32⟩
  | 90 => ⟨S4x2048x27, .i32⟩
  | 91 => ⟨S4x2048x27, .i32⟩
  | 92 => ⟨S_, .i32⟩
  | 93 => ⟨S4x2048x27, .i32⟩
  | 94 => ⟨S4x2048x27, .i1⟩
  | 95 => ⟨S_, .i32⟩
  | 96 => ⟨S4x2048x27, .i32⟩
  | 97 => ⟨S4x2048x27, .i32⟩
  | 98 => ⟨S4x2048x27, .i32⟩
  | 99 => ⟨S_, .i32⟩
  | 100 => ⟨S4x2048x27, .i32⟩
  | 101 => ⟨S4x2048x27, .i1⟩
  | 102 => ⟨S_, .i32⟩
  | 103 => ⟨S4x2048x27, .i32⟩
  | 104 => ⟨S4x2048x27, .i32⟩
  | 105 => ⟨S4x2048x27, .i32⟩
  | 106 => ⟨S4x2048x27, .i32⟩
  | 107 => ⟨S4x2048x27x1, .i32⟩
  | 108 => ⟨S4x2048x27x1, .i32⟩
  | 109 => ⟨S4x2048x27x1, .i32⟩
  | 110 => ⟨S4x2048x27x1, .i32⟩
  | 111 => ⟨S4x2048x27x4, .i32⟩
  | 112 => ⟨S4x2048x27x3, .f32⟩
  | 113 => ⟨S4x2048x3x3, .f32⟩
  | 114 => ⟨S3x3, .i32⟩
  | 115 => ⟨S3x3, .i32⟩
  | 116 => ⟨S_, .i32⟩
  | 117 => ⟨S3x3, .i32⟩
  | 118 => ⟨S3x3, .i32⟩
  | 119 => ⟨S3x3, .i1⟩
  | 120 => ⟨S3x3, .f32⟩
  | 121 => ⟨S_, .f32⟩
  | 122 => ⟨S4x2048x3x3, .f32⟩
  | 123 => ⟨S4x2048x3x3, .f32⟩
  | 124 => ⟨S1x1x3x3, .f32⟩
  | 125 => ⟨S4x2048x3x3, .f32⟩
  | 126 => ⟨S4x2048x3x3, .f32⟩
  | 127 => ⟨S4x2048x3x3, .f32⟩
  | _ => ⟨S2x4x2048x3, .f32⟩

abbrev hbmTy0_3 (i : Nat) : BufTy := match i % 128 with
  | 0 => ⟨S4x2048x3x3, .f32⟩
  | 1 => ⟨S4x2048x3x3, .f32⟩
  | 2 => ⟨S_, .f32⟩
  | 3 => ⟨S_, .f32⟩
  | 4 => ⟨S_, .f32⟩
  | 5 => ⟨S_, .f32⟩
  | _ => ⟨S2x4x2048x3, .f32⟩

abbrev hbmTy (i : Nat) : BufTy := match i / 128 with
  | 0 => hbmTy0_0 i
  | 1 => hbmTy0_1 i
  | 2 => hbmTy0_2 i
  | 3 => hbmTy0_3 i
  | _ => ⟨S2x4x2048x3, .f32⟩

abbrev bufTy : (tb : Table) → Fin (tcTables nBuf tb) → BufTy
  | .hbm, ⟨i, _⟩ => hbmTy i
  | _, _ => ⟨S2x4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_c : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_c_0 : Ref sig .tc := ⟨.hbm, 96, rfl⟩
abbrev main_call0_v12 : Ref sig .tc := ⟨.hbm, 97, rfl⟩
abbrev main_call0_v13 : Ref sig .tc := ⟨.hbm, 98, rfl⟩
abbrev main_v62 : Ref sig .tc := ⟨.hbm, 99, rfl⟩
abbrev main_c_15 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_c : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_0 : Ref sig .tc := ⟨.hbm, 114, rfl⟩
abbrev main_call1_v12 : Ref sig .tc := ⟨.hbm, 115, rfl⟩
abbrev main_call1_v13 : Ref sig .tc := ⟨.hbm, 116, rfl⟩
abbrev main_v63 : Ref sig .tc := ⟨.hbm, 117, rfl⟩
abbrev main_c_16 : Ref sig .tc := ⟨.hbm, 118, rfl⟩
abbrev main_call2_v0 : Ref sig .tc := ⟨.hbm, 119, rfl⟩
abbrev main_call2_c : Ref sig .tc := ⟨.hbm, 120, rfl⟩
abbrev main_call2_v1 : Ref sig .tc := ⟨.hbm, 121, rfl⟩
abbrev main_call2_c_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_c_1 : Ref sig .tc := ⟨.hbm, 126, rfl⟩
abbrev main_call2_v5 : Ref sig .tc := ⟨.hbm, 127, rfl⟩
abbrev main_call2_v6 : Ref sig .tc := ⟨.hbm, 128, rfl⟩
abbrev main_call2_c_2 : Ref sig .tc := ⟨.hbm, 129, rfl⟩
abbrev main_call2_v7 : Ref sig .tc := ⟨.hbm, 130, rfl⟩
abbrev main_call2_v8 : Ref sig .tc := ⟨.hbm, 131, rfl⟩
abbrev main_call2_c_3 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_call2_v12 : Ref sig .tc := ⟨.hbm, 136, rfl⟩
abbrev main_call2_v13 : Ref sig .tc := ⟨.hbm, 137, rfl⟩
abbrev main_call2_v14 : Ref sig .tc := ⟨.hbm, 138, rfl⟩
abbrev main_v64 : Ref sig .tc := ⟨.hbm, 139, rfl⟩
abbrev main_c_17 : Ref sig .tc := ⟨.hbm, 140, rfl⟩
abbrev main_call3_v0 : Ref sig .tc := ⟨.hbm, 141, rfl⟩
abbrev main_call3_c : Ref sig .tc := ⟨.hbm, 142, rfl⟩
abbrev main_call3_v1 : Ref sig .tc := ⟨.hbm, 143, rfl⟩
abbrev main_call3_c_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_c_1 : Ref sig .tc := ⟨.hbm, 148, rfl⟩
abbrev main_call3_v5 : Ref sig .tc := ⟨.hbm, 149, rfl⟩
abbrev main_call3_v6 : Ref sig .tc := ⟨.hbm, 150, rfl⟩
abbrev main_call3_c_2 : Ref sig .tc := ⟨.hbm, 151, rfl⟩
abbrev main_call3_v7 : Ref sig .tc := ⟨.hbm, 152, rfl⟩
abbrev main_call3_v8 : Ref sig .tc := ⟨.hbm, 153, rfl⟩
abbrev main_call3_c_3 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_v12 : Ref sig .tc := ⟨.hbm, 158, rfl⟩
abbrev main_call3_v13 : Ref sig .tc := ⟨.hbm, 159, rfl⟩
abbrev main_call3_v14 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_cst_18 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_cst_19 : Ref sig .tc := ⟨.hbm, 223, rfl⟩
abbrev main_v126 : Ref sig .tc := ⟨.hbm, 224, rfl⟩
abbrev main_c_20 : Ref sig .tc := ⟨.hbm, 225, rfl⟩
abbrev main_v127 : Ref sig .tc := ⟨.hbm, 226, rfl⟩
abbrev main_v128 : Ref sig .tc := ⟨.hbm, 227, rfl⟩
abbrev main_c_21 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_c_22 : Ref sig .tc := ⟨.hbm, 232, rfl⟩
abbrev main_v132 : Ref sig .tc := ⟨.hbm, 233, rfl⟩
abbrev main_v133 : Ref sig .tc := ⟨.hbm, 234, rfl⟩
abbrev main_c_23 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_c_24 : Ref sig .tc := ⟨.hbm, 239, rfl⟩
abbrev main_v137 : Ref sig .tc := ⟨.hbm, 240, rfl⟩
abbrev main_v138 : Ref sig .tc := ⟨.hbm, 241, rfl⟩
abbrev main_c_25 : Ref sig .tc := ⟨.hbm, 242, rfl⟩
abbrev main_v139 : Ref sig .tc := ⟨.hbm, 243, rfl⟩
abbrev main_v140 : Ref sig .tc := ⟨.hbm, 244, rfl⟩
abbrev main_v141 : Ref sig .tc := ⟨.hbm, 245, rfl⟩
abbrev main_c_26 : Ref sig .tc := ⟨.hbm, 246, rfl⟩
abbrev main_v142 : Ref sig .tc := ⟨.hbm, 247, rfl⟩
abbrev main_v143 : Ref sig .tc := ⟨.hbm, 248, rfl⟩
abbrev main_c_27 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_cst_28 : Ref sig .tc := ⟨.hbm, 260, rfl⟩
abbrev main_v154 : Ref sig .tc := ⟨.hbm, 261, rfl⟩
abbrev main_c_29 : Ref sig .tc := ⟨.hbm, 262, rfl⟩
abbrev main_v155 : Ref sig .tc := ⟨.hbm, 263, rfl⟩
abbrev main_v156 : Ref sig .tc := ⟨.hbm, 264, rfl⟩
abbrev main_c_30 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_c_31 : Ref sig .tc := ⟨.hbm, 269, rfl⟩
abbrev main_v160 : Ref sig .tc := ⟨.hbm, 270, rfl⟩
abbrev main_v161 : Ref sig .tc := ⟨.hbm, 271, rfl⟩
abbrev main_c_32 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_c_33 : Ref sig .tc := ⟨.hbm, 276, rfl⟩
abbrev main_v165 : Ref sig .tc := ⟨.hbm, 277, rfl⟩
abbrev main_v166 : Ref sig .tc := ⟨.hbm, 278, rfl⟩
abbrev main_c_34 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_c_35 : Ref sig .tc := ⟨.hbm, 283, rfl⟩
abbrev main_v170 : Ref sig .tc := ⟨.hbm, 284, rfl⟩
abbrev main_v171 : Ref sig .tc := ⟨.hbm, 285, rfl⟩
abbrev main_c_36 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_cst_37 : Ref sig .tc := ⟨.hbm, 297, rfl⟩
abbrev main_v182 : Ref sig .tc := ⟨.hbm, 298, rfl⟩
abbrev main_v183 : Ref sig .tc := ⟨.hbm, 299, rfl⟩
abbrev main_cst_38 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_v210 : Ref sig .tc := ⟨.hbm, 327, rfl⟩
abbrev main_v211 : Ref sig .tc := ⟨.hbm, 328, rfl⟩
abbrev main_v212 : Ref sig .tc := ⟨.hbm, 329, rfl⟩
abbrev main_v213 : Ref sig .tc := ⟨.hbm, 330, rfl⟩
abbrev main_cst_39 : Ref sig .tc := ⟨.hbm, 331, rfl⟩
abbrev main_v214 : Ref sig .tc := ⟨.hbm, 332, rfl⟩
abbrev main_v215 : Ref sig .tc := ⟨.hbm, 333, rfl⟩
abbrev main_c_40 : Ref sig .tc := ⟨.hbm, 334, rfl⟩
abbrev main_v216 : Ref sig .tc := ⟨.hbm, 335, rfl⟩
abbrev main_v217 : Ref sig .tc := ⟨.hbm, 336, rfl⟩
abbrev main_c_41 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_c_42 : Ref sig .tc := ⟨.hbm, 341, rfl⟩
abbrev main_v221 : Ref sig .tc := ⟨.hbm, 342, rfl⟩
abbrev main_v222 : Ref sig .tc := ⟨.hbm, 343, rfl⟩
abbrev main_c_43 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_c_44 : Ref sig .tc := ⟨.hbm, 348, rfl⟩
abbrev main_v226 : Ref sig .tc := ⟨.hbm, 349, rfl⟩
abbrev main_v227 : Ref sig .tc := ⟨.hbm, 350, rfl⟩
abbrev main_c_45 : Ref sig .tc := ⟨.hbm, 351, rfl⟩
abbrev main_v228 : Ref sig .tc := ⟨.hbm, 352, rfl⟩
abbrev main_v229 : Ref sig .tc := ⟨.hbm, 353, rfl⟩
abbrev main_v230 : Ref sig .tc := ⟨.hbm, 354, rfl⟩
abbrev main_c_46 : Ref sig .tc := ⟨.hbm, 355, rfl⟩
abbrev main_v231 : Ref sig .tc := ⟨.hbm, 356, rfl⟩
abbrev main_v232 : Ref sig .tc := ⟨.hbm, 357, rfl⟩
abbrev main_c_47 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_c_48 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_cst_49 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_cst_50 : Ref sig .tc := ⟨.hbm, 386, rfl⟩
abbrev main_v258 : Ref sig .tc := ⟨.hbm, 387, rfl⟩
abbrev main_cst_51 : Ref sig .tc := ⟨.hbm, 388, rfl⟩
abbrev main_v259 : Ref sig .tc := ⟨.hbm, 389, rfl⟩

abbrev nD : Nat := 1
abbrev τ : Topo := Topo.v7x

variable {F : FTy → Type} [FloatOps F]
-- ==== Proof.Spec.lean ====
/- The mathematics of the step, over the real numbers: one grid, its particles, the mass and momentum they lay on the
   grid, and the loss read back from it. Both programs are shown to compute these functions. -/
module

public import Mathlib.Data.Real.Basic
public import Mathlib.Algebra.Order.Floor.Semiring
public import Mathlib.Algebra.BigOperators.Fin
public import Mathlib.Tactic.Ring
public import Mathlib.Tactic.Linarith
public import Mathlib.Tactic.Positivity
public import Mathlib.Tactic.NormNum
public import Idealize.ShloMosaic.PureOps.Ideal

@[expose] public section

noncomputable section

namespace Cert.Mpm

/-- The grid spacing, as the binary32 constant both programs carry. -/
def DX : ℝ := 10737418 * (2 : ℝ) ^ (-27 : ℤ)

/-- Twice the frame interval, as the binary32 constant both programs carry. -/
def TWODT : ℝ := 11193759 * (2 : ℝ) ^ (-26 : ℤ)

/-- The frame interval, as the binary32 constant both programs carry. -/
def DT : ℝ := 11193759 * (2 : ℝ) ^ (-27 : ℤ)

/-- The least mass a node is divided by, as the binary32 constant both programs carry. -/
def EPS : ℝ := 9444733 * (2 : ℝ) ^ (-73 : ℤ)

theorem TWODT_ne : TWODT ≠ 0 := by unfold TWODT; positivity

theorem EPS_pos : 0 < EPS := by unfold EPS; positivity

/-- What one grid step reads: positions at its frame and two frames later, volumes, and three 3 by 3 fields. -/
structure Step where
  x : Fin 2048 → Fin 3 → ℝ
  x2 : Fin 2048 → Fin 3 → ℝ
  vol : Fin 2048 → ℝ
  F : Fin 2048 → Fin 9 → ℝ
  Fn : Fin 2048 → Fin 9 → ℝ
  C : Fin 2048 → Fin 9 → ℝ

/-- Entry `(r, k)` of a 3 by 3 field stored as nine numbers. -/
def rc (r k : Fin 3) : Fin 9 := ⟨3 * r.val + k.val, by omega⟩

/-- The three quadratic weights of a particle at offset `f` from its base node. -/
def wt (f : ℝ) : Fin 3 → ℝ := ![(1 / 2) * ((3 / 2 - f) * (3 / 2 - f)), 3 / 4 - (f - 1) * (f - 1), (1 / 2) * ((f - 1 / 2) * (f - 1 / 2))]

/-- Their derivatives. -/
def dwt (f : ℝ) : Fin 3 → ℝ := ![f - 3 / 2, -2 * (f - 1), f - 1 / 2]

/-- Three weights laid on a line of nodes, the first at node `b`. -/
def spread (w : Fin 3 → ℝ) (b l : ℕ) : ℝ := if l = b + 2 then w 2 else if l = b + 1 then w 1 else if l = b then w 0 else 0

namespace Step

variable (s : Step)

/-- A particle's place in units of the grid, counted from node 62. -/
def g (n : Fin 2048) (a : Fin 3) : ℝ := 25 * s.x n a + 1 / 2

/-- Its base node, counted from node 62. -/
def b (n : Fin 2048) (a : Fin 3) : ℕ := ⌊25 * s.x n a⌋₊

/-- Its offset from the base node. -/
def fx (n : Fin 2048) (a : Fin 3) : ℝ := s.g n a - s.b n a

/-- Its velocity. -/
def vel (n : Fin 2048) (r : Fin 3) : ℝ := ((2 * s.x2 n r + 5) - (2 * s.x n r + 5)) / TWODT

/-- Its mass. -/
def mass (n : Fin 2048) : ℝ := 1000 * s.vol n

/-- The weight it puts on node `l` along axis `a`, and the derivative of that weight. -/
def W (n : Fin 2048) (a : Fin 3) (l : ℕ) : ℝ := spread (wt (s.fx n a)) (s.b n a) l
def dW (n : Fin 2048) (a : Fin 3) (l : ℕ) : ℝ := spread (dwt (s.fx n a)) (s.b n a) l

/-- The momentum per mass it brings to the node `X, Y, Z`. -/
def push (n : Fin 2048) (r : Fin 3) (X Y Z : ℕ) : ℝ :=
  s.vel n r + ((X - s.g n 0) * DX * s.C n (rc r 0) + (Y - s.g n 1) * DX * s.C n (rc r 1) + (Z - s.g n 2) * DX * s.C n (rc r 2))

/-- Mass and momentum of a node. -/
def GM (X Y Z : ℕ) : ℝ := ∑ n, s.W n 0 X * s.W n 1 Y * s.W n 2 Z * s.mass n
def GV (r : Fin 3) (X Y Z : ℕ) : ℝ := ∑ n, s.W n 0 X * s.W n 1 Y * s.W n 2 Z * s.mass n * s.push n r X Y Z

/-- The mass a node's momentum is divided by. -/
def safe (X Y Z : ℕ) : ℝ := if EPS < s.GM X Y Z then s.GM X Y Z else 1

theorem safe_ne (X Y Z : ℕ) : s.safe X Y Z ≠ 0 := by
  unfold safe; split_ifs with h
  · exact (EPS_pos.trans h).ne'
  · exact one_ne_zero

/-- A node's velocity. -/
def gv (r : Fin 3) (X Y Z : ℕ) : ℝ := s.GV r X Y Z / s.safe X Y Z

/-- The derivative weight of stencil corner `i, j, k`, along axis `e`. -/
def dweight (n : Fin 2048) (e i j k : Fin 3) : ℝ :=
  (if e = 0 then dwt (s.fx n 0) i else wt (s.fx n 0) i) * (if e = 1 then dwt (s.fx n 1) j else wt (s.fx n 1) j)
    * (if e = 2 then dwt (s.fx n 2) k else wt (s.fx n 2) k)

/-- The velocity gradient at a particle. -/
def NF (n : Fin 2048) (r e : Fin 3) : ℝ :=
  ∑ i : Fin 3, ∑ j : Fin 3, ∑ k : Fin 3,
    s.gv r (s.b n 0 + i) (s.b n 1 + j) (s.b n 2 + k) * (s.dweight n e i j k * (25 / 2))

/-- The predicted deformation gradient against the next one, one entry. -/
def loss (n : Fin 2048) (r c : Fin 3) : ℝ :=
  |(∑ k : Fin 3, ((if r = k then 1 else 0) + s.NF n r k * DT) * s.F n (rc k c)) - s.Fn n (rc r c)|

/-- The step's share of the loss. -/
def total : ℝ := ∑ n, ∑ r, ∑ c, s.loss n r c

end Step

/-! ## Sums over a line of nodes -/

/-- A sum over a line of 32 nodes against three spread weights is a sum over the three. -/
theorem sum_spread (w : Fin 3 → ℝ) (b : ℕ) (hb : b ≤ 24) (h : ℕ → ℝ) :
    ∑ l : Fin 32, spread w b l * h l = ∑ i : Fin 3, w i * h (b + i) := by
  rw [Fin.sum_univ_eq_sum_range (fun l => spread w b l * h l) 32]
  have hs : ({b, b + 1, b + 2} : Finset ℕ) ⊆ Finset.range 32 := by
    intro l hl; simp only [Finset.mem_insert, Finset.mem_singleton] at hl; simp only [Finset.mem_range]; omega
  rw [← Finset.sum_subset hs]
  · rw [Finset.sum_insert (by simp), Finset.sum_insert (by simp), Finset.sum_singleton]
    simp [Fin.sum_univ_three, spread, add_assoc]
  · intro l _ hl
    simp only [Finset.mem_insert, Finset.mem_singleton, not_or] at hl
    rw [spread, if_neg hl.2.2, if_neg hl.2.1, if_neg hl.1, zero_mul]

/-- The weights of the stencil corners that lie on a node add up to the product of the three spread weights. -/
theorem sum_corners (u v w : Fin 3 → ℝ) (a b c X Y Z : ℕ) (q : ℝ) :
    (∑ i : Fin 3, ∑ j : Fin 3, ∑ k : Fin 3, if a + i = X ∧ b + j = Y ∧ c + k = Z then u i * v j * w k * q else 0)
      = spread u a X * spread v b Y * spread w c Z * q := by
  have hsp : ∀ (u : Fin 3 → ℝ) (a X : ℕ), spread u a X = ∑ i : Fin 3, if a + i = X then u i else 0 := by
    intro u a X
    simp only [spread, Fin.sum_univ_three, Fin.val_zero, Fin.val_one, Fin.val_two, add_zero]
    split_ifs <;> first | omega | simp
  rw [hsp u, hsp v, hsp w, Finset.sum_mul_sum, Finset.sum_mul, Finset.sum_mul]
  refine Finset.sum_congr rfl fun i _ => ?_
  rw [Finset.sum_mul, Finset.sum_mul]
  refine Finset.sum_congr rfl fun j _ => ?_
  rw [Finset.mul_sum, Finset.sum_mul]
  refine Finset.sum_congr rfl fun k _ => ?_
  by_cases h1 : a + (i : ℕ) = X <;> by_cases h2 : b + (j : ℕ) = Y <;> by_cases h3 : c + (k : ℕ) = Z <;> simp [h1, h2, h3]

/-- A position along the flattened pair of two lines of 32 nodes. -/
theorem sum_pair (h : ℕ → ℕ → ℝ) : ∑ p : Fin 1024, h (p.val / 32) (p.val % 32) = ∑ y : Fin 32, ∑ z : Fin 32, h y z := by
  rw [← Finset.sum_product', Finset.univ_product_univ]
  exact Fintype.sum_equiv (finProdFinEquiv (m := 32) (n := 32)).symm _ _ fun p => by
    simp [finProdFinEquiv, Fin.divNat, Fin.modNat]

/-! ## Where a particle of the unit cube sits -/

namespace Step

variable (s : Step) (hs : ∀ n a, 0 ≤ s.x n a ∧ s.x n a < 1)
include hs

theorem b_le (n : Fin 2048) (a : Fin 3) : s.b n a ≤ 24 := by
  have h := hs n a
  have : s.b n a < 25 := by
    unfold b; rw [Nat.floor_lt (by linarith)]; push_cast; linarith
  omega

theorem floor_eq (n : Fin 2048) (a : Fin 3) : ⌊25 * s.x n a⌋ = (s.b n a : ℤ) := by
  have h := hs n a
  unfold b; rw [Int.natCast_floor_eq_floor (by linarith)]

end Step

end Cert.Mpm

end
-- ==== Proof.Lift.lean ====
/- Extended reals that are real numbers: how sums, quotients, absolute values, comparisons and roundings of real
   numbers read at the ideal instance, and what the programs' constants denote. -/
module

public import proofs.«01_k».proof.Proof.Spec
public import Idealize.ShloMosaic.Lib.Pointwise

@[expose] public section

noncomputable section

namespace Cert.Mpm

open Idealize.ShloMosaic

theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem coe_div (x : ℝ) {y : ℝ} (h : y ≠ 0) : Ideal.div (x : EReal) (y : EReal) = ((x / y : ℝ) : EReal) := by
  rw [Ideal.div_coe h, ← EReal.coe_mul, mul_one_div]

theorem coe_abs (x : ℝ) : max (x : EReal) (-(x : EReal)) = ((|x| : ℝ) : EReal) := by
  rw [← EReal.coe_neg, ← EReal.coe_strictMono.monotone.map_max]; rfl

theorem coe_ite (p : Prop) [Decidable p] (x y : ℝ) : (if p then (x : EReal) else (y : EReal)) = ((if p then x else y : ℝ) : EReal) := by
  split_ifs <;> rfl

/-! ## Constants -/

theorem ofBits_two : Ideal.ofBits .f32 0x40000000#32 = ((2 : ℝ) : EReal) := by
  simp [Ideal.ofBits, Ideal.ieee, -EReal.coe_mul, -EReal.coe_neg]; norm_num
theorem ofBits_five : Ideal.ofBits .f32 0x40A00000#32 = ((5 : ℝ) : EReal) := by
  simp [Ideal.ofBits, Ideal.ieee, -EReal.coe_mul, -EReal.coe_neg]; norm_num
theorem ofBits_invdx : Ideal.ofBits .f32 0x41480000#32 = ((25 / 2 : ℝ) : EReal) := by
  simp [Ideal.ofBits, Ideal.ieee, -EReal.coe_mul, -EReal.coe_neg]; norm_num
theorem ofBits_base : Ideal.ofBits .f32 0x42780000#32 = ((62 : ℝ) : EReal) := by
  simp [Ideal.ofBits, Ideal.ieee, -EReal.coe_mul, -EReal.coe_neg]; norm_num
theorem ofBits_half : Ideal.ofBits .f32 0x3F000000#32 = ((1 / 2 : ℝ) : EReal) := by
  simp [Ideal.ofBits, Ideal.ieee, -EReal.coe_mul, -EReal.coe_neg]; norm_num
theorem ofBits_one : Ideal.ofBits .f32 0x3F800000#32 = ((1 : ℝ) : EReal) := by
  simp [Ideal.ofBits_one_f32]
theorem ofBits_zero : Ideal.ofBits .f32 0x00000000#32 = ((0 : ℝ) : EReal) := by
  simp [Ideal.ofBits_zero_f32]
theorem ofBits_threehalves : Ideal.ofBits .f32 0x3FC00000#32 = ((3 / 2 : ℝ) : EReal) := by
  simp [Ideal.ofBits, Ideal.ieee, -EReal.coe_mul, -EReal.coe_neg]; norm_num
theorem ofBits_threequarters : Ideal.ofBits .f32 0x3F400000#32 = ((3 / 4 : ℝ) : EReal) := by
  simp [Ideal.ofBits, Ideal.ieee, -EReal.coe_mul, -EReal.coe_neg]; norm_num
theorem ofBits_negtwo : Ideal.ofBits .f32 0xC0000000#32 = ((-2 : ℝ) : EReal) := by
  simp [Ideal.ofBits, Ideal.ieee, -EReal.coe_mul, -EReal.coe_neg]; norm_num
theorem ofBits_density : Ideal.ofBits .f32 0x447A0000#32 = ((1000 : ℝ) : EReal) := by
  simp [Ideal.ofBits, Ideal.ieee, -EReal.coe_mul, -EReal.coe_neg]; norm_num
theorem ofBits_count : Ideal.ofBits .f32 0x47900000#32 = ((73728 : ℝ) : EReal) := by
  simp [Ideal.ofBits, Ideal.ieee, -EReal.coe_mul, -EReal.coe_neg]; norm_num
theorem ofBits_DX : Ideal.ofBits .f32 0x3DA3D70A#32 = ((DX : ℝ) : EReal) := by
  simp [Ideal.ofBits, Ideal.ieee, DX, -EReal.coe_mul]
theorem ofBits_TWODT : Ideal.ofBits .f32 0x3E2ACD9F#32 = ((TWODT : ℝ) : EReal) := by
  simp [Ideal.ofBits, Ideal.ieee, TWODT, -EReal.coe_mul]
theorem ofBits_DT : Ideal.ofBits .f32 0x3DAACD9F#32 = ((DT : ℝ) : EReal) := by
  simp [Ideal.ofBits, Ideal.ieee, DT, -EReal.coe_mul]
theorem ofBits_EPS : Ideal.ofBits .f32 0x26901D7D#32 = ((EPS : ℝ) : EReal) := by
  simp [Ideal.ofBits, Ideal.ieee, EPS, -EReal.coe_mul]

/-! ## Comparisons and roundings -/

theorem select_gt (x y : ℝ) (a b : EReal) : Scalar.select (Ideal.cmp .ogt (x : EReal) (y : EReal)) a b = if y < x then a else b := by
  simp only [Ideal.cmp, EReal.coe_lt_coe_iff]
  by_cases h : y < x <;> simp [h, Scalar.select]

theorem fptosi_coe_nat (x : ℝ) (k : ℕ) (hk : k < 2 ^ 31) (h : ⌊x⌋ = (k : ℤ)) : Ideal.fptosi 32 (x : EReal) = BitVec.ofNat 32 k := by
  have h0 : 0 ≤ x := by
    have := Int.floor_le x; rw [h] at this; have : ((k : ℤ) : ℝ) ≤ x := this; push_cast at this; exact le_trans (Nat.cast_nonneg k) this
  have hk' : (k : ℤ) < 2 ^ 31 := by exact_mod_cast hk
  rw [Ideal.fptosi, Ideal.toIntClamped_coe, if_pos h0, h, min_eq_right (by push_cast; omega), max_eq_right (by push_cast; omega)]
  rw [BitVec.ofInt_natCast]

end Cert.Mpm

end
-- ==== Proof.KernelWeights.lean ====
/- The kernel's per-particle quantities as real numbers: grid position, velocity, base node, offset, and the three
   weights and their derivatives spread over the 32 nodes of each axis. -/
module

public import proofs.«01_k».proof.Proof.Lift
public import proofs.«01_k».proof.Proof.Gen.KernelIdeal.Skeleton

@[expose] public section

set_option maxRecDepth 16384

noncomputable section

namespace Cert.Mpm

open Idealize.ShloMosaic Cert.KernelIdeal Cert.KernelIdeal.Gen

/-- A test of a node number against a base node plus an offset, as the select it drives. -/
theorem select_node {α : Type} (l b k : ℕ) (hl : l < 32) (hb : b ≤ 24) (hk : k ≤ 2) (x y : α) :
    Scalar.select (IntOp.cmpi .eq (BitVec.ofNat 32 l) (IntOp.addi (BitVec.ofNat 32 b) (BitVec.ofNat 32 k))) x y
      = if l = b + k then x else y := by
  have e : IntOp.cmpi .eq (BitVec.ofNat 32 l) (IntOp.addi (BitVec.ofNat 32 b) (BitVec.ofNat 32 k))
      = BitVec.ofBool (decide (l = b + k)) := by
    have hiff : (BitVec.ofNat 32 l = BitVec.ofNat 32 b + BitVec.ofNat 32 k) ↔ l = b + k := by
      rw [← BitVec.ofNat_add]
      constructor
      · intro h
        have := congrArg BitVec.toNat h
        simp only [BitVec.toNat_ofNat] at this
        omega
      · intro h; rw [h]
    simp only [IntOp.cmpi, IntOp.addi]
    by_cases h : l = b + k
    · simp [h, BitVec.ofNat_add]
    · have h' := mt hiff.mp h
      simp [h, beq_false_of_ne h']
  rw [e]
  by_cases h : l = b + k <;> simp [h, Scalar.select]

variable {s : Step}

/-- The kernel's window: every position lies in the unit cube. -/
def Step.InBox (s : Step) : Prop := ∀ n a, 0 ≤ s.x n a ∧ s.x n a < 1

theorem Step.floor_at (hs : s.InBox) (n : Fin 2048) (a : Fin 3) :
    Ideal.liftRound Int.floor (((s.g n a : ℝ) : EReal) - ((1 / 2 : ℝ) : EReal)) = ((s.b n a : ℝ) : EReal) := by
  rw [← EReal.coe_sub, Ideal.liftRound_coe]
  have : s.g n a - 1 / 2 = 25 * s.x n a := by simp [Step.g]
  rw [this, s.floor_eq hs n a]; simp

theorem Step.word_at (hs : s.InBox) (n : Fin 2048) (a : Fin 3) :
    Ideal.fptosi 32 ((s.b n a : ℝ) : EReal) = BitVec.ofNat 32 (s.b n a) := by
  apply fptosi_coe_nat
  · have := s.b_le hs n a; omega
  · simp

/-- The velocity of a particle. -/
theorem pay7_at (v0 v3 : Vec Ideal S1x1x2048x3 .f32) (h0 : ∀ n a, v0 (ix4 0 0 n a) = ((s.x n a : ℝ) : EReal))
    (h3 : ∀ n a, v3 (ix4 0 0 n a) = ((s.x2 n a : ℝ) : EReal)) (a : Fin 3) (n : Fin 2048) :
    k0_pay7 v0 v3 (ix2 a n) = ((s.vel n a : ℝ) : EReal) := by
  pointwise [k0_pay7, k0_pay6]
  rw [h0, h3, ofBits_two, ofBits_five, ofBits_TWODT]
  simp only [← EReal.coe_mul, ← EReal.coe_add, ← EReal.coe_sub]
  rw [coe_div _ TWODT_ne]
  congr 1
  simp only [Step.vel]; ring

/-- The position of a particle in grid units, relative to the kernel's window. -/
theorem pay8_at (v0 : Vec Ideal S1x1x2048x3 .f32) (h0 : ∀ n a, v0 (ix4 0 0 n a) = ((s.x n a : ℝ) : EReal))
    (a : Fin 3) (n : Fin 2048) : k0_pay8 v0 (ix2 a n) = ((s.g n a : ℝ) : EReal) := by
  pointwise [k0_pay8, k0_pay6]
  rw [h0, ofBits_two, ofBits_five, ofBits_invdx, ofBits_base]
  simp only [← EReal.coe_mul, ← EReal.coe_add, ← EReal.coe_sub]
  congr 1
  simp only [Step.g]; ring

theorem pay9_at (a : Fin 3) (n : Fin 2048) : k0_pay9 (F := Ideal) (ix2 a n) = ((1 / 2 : ℝ) : EReal) := by
  pointwise [k0_pay9]
  exact ofBits_half

section
variable {v29 v30 : FVec Ideal S3x2048 .f32}

/-- The base node of a particle, as a word. -/
theorem pay11_at (hs : s.InBox) (h29 : ∀ a n, v29 (ix2 a n) = ((s.g n a : ℝ) : EReal))
    (h30 : ∀ a n, v30 (ix2 a n) = ((1 / 2 : ℝ) : EReal)) (a : Fin 3) (n : Fin 2048) :
    k0_pay11 v29 v30 (ix2 a n) = BitVec.ofNat 32 (s.b n a) := by
  pointwise [k0_pay11, k0_pay10]
  rw [h29, h30, Step.floor_at hs]
  exact Step.word_at hs n a

/-- The offset of a particle from its base node. -/
theorem pay12_at (hs : s.InBox) (h29 : ∀ a n, v29 (ix2 a n) = ((s.g n a : ℝ) : EReal))
    (h30 : ∀ a n, v30 (ix2 a n) = ((1 / 2 : ℝ) : EReal)) (a : Fin 3) (n : Fin 2048) :
    k0_pay12 v29 v30 (ix2 a n) = ((s.fx n a : ℝ) : EReal) := by
  pointwise [k0_pay12, k0_pay10]
  rw [h29, h30, Step.floor_at hs, ← EReal.coe_sub]
  rfl

theorem pay13_at (hs : s.InBox) (h29 : ∀ a n, v29 (ix2 a n) = ((s.g n a : ℝ) : EReal))
    (h30 : ∀ a n, v30 (ix2 a n) = ((1 / 2 : ℝ) : EReal)) (n : Fin 2048) :
    k0_pay13 v29 v30 (ix2 0 n) = ((s.fx n 0 : ℝ) : EReal) := by
  rw [← pay12_at hs h29 h30]
  pointwise [k0_pay13]

theorem pay14_at (hs : s.InBox) (h29 : ∀ a n, v29 (ix2 a n) = ((s.g n a : ℝ) : EReal))
    (h30 : ∀ a n, v30 (ix2 a n) = ((1 / 2 : ℝ) : EReal)) (n : Fin 2048) :
    k0_pay14 v29 v30 (ix2 0 n) = BitVec.ofNat 32 (s.b n 0) := by
  rw [← pay11_at hs h29 h30]
  pointwise [k0_pay14]

/-- The weight along the first axis, over its 32 nodes. -/
theorem weight0_at (hs : s.InBox) (h29 : ∀ a n, v29 (ix2 a n) = ((s.g n a : ℝ) : EReal))
    (h30 : ∀ a n, v30 (ix2 a n) = ((1 / 2 : ℝ) : EReal)) (v35 : IVec S32x2048 32)
    (h35 : ∀ l n, v35 (ix2 l n) = BitVec.ofNat 32 l.val) (l : Fin 32) (n : Fin 2048) :
    k0_pay24 v35 (k0_pay14 v29 v30) (k0_pay15 v29 v30) (k0_pay16 v29 v30) (k0_pay20 v29 v30) (k0_pay22 v29 v30) (ix2 l n)
      = ((s.W n 0 l : ℝ) : EReal) := by
  have hb := s.b_le hs n 0
  pointwise [k0_pay24, k0_pay23, k0_pay15, k0_pay16, k0_pay20, k0_pay19, k0_pay22]
  rw [h35, pay13_at hs h29 h30, pay14_at hs h29 h30]
  simp only [select_node _ _ 0 l.isLt hb (by omega), select_node _ _ 1 l.isLt hb (by omega), select_node _ _ 2 l.isLt hb (by omega),
    ofBits_half, ofBits_one, ofBits_threehalves, ofBits_threequarters, ← EReal.coe_sub, ← EReal.coe_mul, ← EReal.coe_zero, ← EReal.coe_one, coe_ite]
  rfl

/-- The weight's derivative along the first axis, over its 32 nodes. -/
theorem dweight0_at (hs : s.InBox) (h29 : ∀ a n, v29 (ix2 a n) = ((s.g n a : ℝ) : EReal))
    (h30 : ∀ a n, v30 (ix2 a n) = ((1 / 2 : ℝ) : EReal)) (v35 : IVec S32x2048 32)
    (h35 : ∀ l n, v35 (ix2 l n) = BitVec.ofNat 32 l.val) (l : Fin 32) (n : Fin 2048) :
    k0_pay25 v35 (k0_pay14 v29 v30) (k0_pay17 v29 v30) (k0_pay18 v29 v30) (k0_pay21 v29 v30) (k0_pay22 v29 v30) (ix2 l n)
      = ((s.dW n 0 l : ℝ) : EReal) := by
  have hb := s.b_le hs n 0
  pointwise [k0_pay25, k0_pay23, k0_pay17, k0_pay18, k0_pay21, k0_pay19, k0_pay22]
  rw [h35, pay13_at hs h29 h30, pay14_at hs h29 h30]
  simp only [select_node _ _ 0 l.isLt hb (by omega), select_node _ _ 1 l.isLt hb (by omega), select_node _ _ 2 l.isLt hb (by omega),
    ofBits_half, ofBits_one, ofBits_threehalves, ofBits_negtwo, ← EReal.coe_sub, ← EReal.coe_mul, ← EReal.coe_zero, ← EReal.coe_one, coe_ite]
  rfl

end

section
variable {v33 : IVec S3x2048 32} {v34 : FVec Ideal S3x2048 .f32} {v35 : IVec S32x2048 32}

/-- The weight along the second axis, over its 32 nodes. -/
theorem weight1_at (hs : s.InBox) (h33 : ∀ a n, v33 (ix2 a n) = BitVec.ofNat 32 (s.b n a))
    (h34 : ∀ a n, v34 (ix2 a n) = ((s.fx n a : ℝ) : EReal))
    (h35 : ∀ l n, v35 (ix2 l n) = BitVec.ofNat 32 l.val) (l : Fin 32) (n : Fin 2048) :
    k0_pay40 v35 (k0_pay27 v33) (k0_pay28 v34) (k0_pay29 v34) (k0_pay30 v34) k0_pay34 (k0_pay36 v33) (ix2 l n)
      = ((s.W n 1 l : ℝ) : EReal) := by
  have hb := s.b_le hs n 1
  pointwise [k0_pay40, k0_pay37, k0_pay38, k0_pay39, k0_pay27, k0_pay26, k0_pay28, k0_pay29, k0_pay30, k0_pay34, k0_pay36]
  rw [h35, h33, h34]
  simp only [select_node _ _ 0 l.isLt hb (by omega), select_node _ _ 1 l.isLt hb (by omega), select_node _ _ 2 l.isLt hb (by omega),
    ofBits_half, ofBits_one, ofBits_threehalves, ofBits_threequarters, ← EReal.coe_sub, ← EReal.coe_mul, ← EReal.coe_zero, ← EReal.coe_one, coe_ite]
  rfl

/-- The weight's derivative along the second axis, over its 32 nodes. -/
theorem dweight1_at (hs : s.InBox) (h33 : ∀ a n, v33 (ix2 a n) = BitVec.ofNat 32 (s.b n a))
    (h34 : ∀ a n, v34 (ix2 a n) = ((s.fx n a : ℝ) : EReal))
    (h35 : ∀ l n, v35 (ix2 l n) = BitVec.ofNat 32 l.val) (l : Fin 32) (n : Fin 2048) :
    k0_pay41 v35 (k0_pay27 v33) (k0_pay31 v34) (k0_pay32 v34) (k0_pay33 v34) k0_pay35 (k0_pay36 v33) (ix2 l n)
      = ((s.dW n 1 l : ℝ) : EReal) := by
  have hb := s.b_le hs n 1
  pointwise [k0_pay41, k0_pay37, k0_pay38, k0_pay39, k0_pay27, k0_pay26, k0_pay31, k0_pay32, k0_pay33, k0_pay35, k0_pay36]
  rw [h35, h33, h34]
  simp only [select_node _ _ 0 l.isLt hb (by omega), select_node _ _ 1 l.isLt hb (by omega), select_node _ _ 2 l.isLt hb (by omega),
    ofBits_half, ofBits_one, ofBits_threehalves, ofBits_negtwo, ← EReal.coe_sub, ← EReal.coe_mul, ← EReal.coe_zero, ← EReal.coe_one, coe_ite]
  rfl

/-- The weight along the third axis, over its 32 nodes. -/
theorem weight2_at (hs : s.InBox) (h33 : ∀ a n, v33 (ix2 a n) = BitVec.ofNat 32 (s.b n a))
    (h34 : ∀ a n, v34 (ix2 a n) = ((s.fx n a : ℝ) : EReal))
    (h35 : ∀ l n, v35 (ix2 l n) = BitVec.ofNat 32 l.val) (l : Fin 32) (n : Fin 2048) :
    k0_pay54 v35 (k0_pay43 v33) (k0_pay44 v34) (k0_pay45 v34) (k0_pay46 v34) (ix2 l n) = ((s.W n 2 l : ℝ) : EReal) := by
  have hb := s.b_le hs n 2
  pointwise [k0_pay54, k0_pay50, k0_pay51, k0_pay52, k0_pay42, k0_pay43, k0_pay44, k0_pay45, k0_pay46]
  rw [h35, h33, h34]
  simp only [select_node _ _ 0 l.isLt hb (by omega), select_node _ _ 1 l.isLt hb (by omega), select_node _ _ 2 l.isLt hb (by omega),
    ofBits_half, ofBits_one, ofBits_threehalves, ofBits_threequarters, ← EReal.coe_sub, ← EReal.coe_mul, ← EReal.coe_zero, ← EReal.coe_one, coe_ite]
  rfl

/-- The weight's derivative along the third axis, over its 32 nodes. -/
theorem dweight2_at (hs : s.InBox) (h33 : ∀ a n, v33 (ix2 a n) = BitVec.ofNat 32 (s.b n a))
    (h34 : ∀ a n, v34 (ix2 a n) = ((s.fx n a : ℝ) : EReal))
    (h35 : ∀ l n, v35 (ix2 l n) = BitVec.ofNat 32 l.val) (l : Fin 32) (n : Fin 2048) :
    k0_pay57 v35 (k0_pay42 v34) (k0_pay43 v33) (k0_pay47 v34) (k0_pay48 v34) k0_pay49 (ix3 0 l n) = ((s.dW n 2 l : ℝ) : EReal) := by
  have hb := s.b_le hs n 2
  pointwise [k0_pay57, k0_pay50, k0_pay51, k0_pay52, k0_pay42, k0_pay43, k0_pay47, k0_pay48, k0_pay49]
  rw [h35, h33, h34]
  simp only [select_node _ _ 0 l.isLt hb (by omega), select_node _ _ 1 l.isLt hb (by omega), select_node _ _ 2 l.isLt hb (by omega),
    ofBits_half, ofBits_one, ofBits_threehalves, ofBits_negtwo, ← EReal.coe_sub, ← EReal.coe_mul, ← EReal.coe_zero, ← EReal.coe_one, coe_ite]
  rfl

end

end Cert.Mpm

end
-- ==== Proof.KernelGrid.lean ====
/- The kernel's grid: the pairs of weights of a grid row, the table of mass and momentum sums, the node numbers
   as numbers, and the velocity of a node. -/
module

public import proofs.«01_k».proof.Proof.KernelWeights
public import Idealize.ShloMosaic.Lib.Routing.Words

@[expose] public section

set_option maxRecDepth 16384

noncomputable section

namespace Cert.Mpm

open Idealize.ShloMosaic Idealize.ShloMosaic.Routing Cert.KernelIdeal Cert.KernelIdeal.Gen

variable {s : Step}

/-! ## Pairs of weights, over the 1024 nodes of the two inner axes -/

theorem pair0_at {v35 : IVec S32x2048 32} {v146 : FVec Ideal S32x2048 .f32} {v151 : IVec S1x2048 32} {v156 v161 v166 : FVec Ideal S1x2048 .f32}
    (h146 : ∀ l n, v146 (ix2 l n) = ((s.W n 1 l.val : ℝ) : EReal))
    (h54 : ∀ l n, k0_pay54 v35 v151 v156 v161 v166 (ix2 l n) = ((s.W n 2 l.val : ℝ) : EReal)) (p : Fin 1024) (n : Fin 2048) :
    k0_pay55 v35 v146 v151 v156 v161 v166 (ix2 p n) = ((s.W n 1 (p.val / 32) * s.W n 2 (p.val % 32) : ℝ) : EReal) := by
  pointwise [k0_pay55, k0_pay53]
  rw [h146, h54, ← EReal.coe_mul]

theorem pair1_at {v35 : IVec S32x2048 32} {v149 : FVec Ideal S32x2048 .f32} {v151 : IVec S1x2048 32} {v156 v161 v166 : FVec Ideal S1x2048 .f32}
    (h149 : ∀ l n, v149 (ix2 l n) = ((s.dW n 1 l.val : ℝ) : EReal))
    (h54 : ∀ l n, k0_pay54 v35 v151 v156 v161 v166 (ix2 l n) = ((s.W n 2 l.val : ℝ) : EReal)) (p : Fin 1024) (n : Fin 2048) :
    k0_pay56 v35 v149 v151 v156 v161 v166 (ix2 p n) = ((s.dW n 1 (p.val / 32) * s.W n 2 (p.val % 32) : ℝ) : EReal) := by
  pointwise [k0_pay56]
  rw [h149, h54, ← EReal.coe_mul]

theorem pair2_at {v146 : FVec Ideal S32x2048 .f32} {v224 : FVec Ideal S1x32x2048 .bf16}
    (h146 : ∀ l n, v146 (ix2 l n) = ((s.W n 1 l.val : ℝ) : EReal))
    (h224 : ∀ l n, v224 (ix3 0 l n) = ((s.dW n 2 l.val : ℝ) : EReal)) (p : Fin 1024) (n : Fin 2048) :
    k0_pay59 v224 (k0_pay58 v146) (ix2 p n) = ((s.W n 1 (p.val / 32) * s.dW n 2 (p.val % 32) : ℝ) : EReal) := by
  pointwise [k0_pay59, k0_pay58, k0_pay53]
  rw [h146, h224, ← EReal.coe_mul]

/-! ## The table of sums -/

section
variable {v14 : FVec Ideal S9x2048 .f32} {v25 v29 : FVec Ideal S3x2048 .f32} {v89 : FVec Ideal S32x2048 .f32}
  {v216 : FVec Ideal S1024x2048 .bf16} {v259 : Vec Ideal S1x1x2048 .f32}

/-- What the table's hypotheses are: the particle arrays read as a step's numbers. -/
structure TableIn (s : Step) (v14 : FVec Ideal S9x2048 .f32) (v25 v29 : FVec Ideal S3x2048 .f32) (v89 : FVec Ideal S32x2048 .f32)
    (v216 : FVec Ideal S1024x2048 .bf16) (v259 : Vec Ideal S1x1x2048 .f32) : Prop where
  C : ∀ j n, v14 (ix2 j n) = ((s.C n j : ℝ) : EReal)
  vel : ∀ a n, v25 (ix2 a n) = ((s.vel n a : ℝ) : EReal)
  g : ∀ a n, v29 (ix2 a n) = ((s.g n a : ℝ) : EReal)
  W : ∀ l n, v89 (ix2 l n) = ((s.W n 0 l.val : ℝ) : EReal)
  B : ∀ p n, v216 (ix2 p n) = ((s.W n 1 (p.val / 32) * s.W n 2 (p.val % 32) : ℝ) : EReal)
  vol : ∀ n, v259 (ix3 0 0 n) = ((s.vol n : ℝ) : EReal)

/-- A particle's share of row `q` of the table, per unit of mass and weight. -/
def Step.row (s : Step) (n : Fin 2048) : Fin 13 → ℝ :=
  ![1,
    s.vel n 0 - (DX * s.C n 0 * s.g n 0 + DX * s.C n 1 * s.g n 1 + DX * s.C n 2 * s.g n 2),
    s.vel n 1 - (DX * s.C n 3 * s.g n 0 + DX * s.C n 4 * s.g n 1 + DX * s.C n 5 * s.g n 2),
    s.vel n 2 - (DX * s.C n 6 * s.g n 0 + DX * s.C n 7 * s.g n 1 + DX * s.C n 8 * s.g n 2),
    DX * s.C n 0, DX * s.C n 3, DX * s.C n 6, DX * s.C n 1, DX * s.C n 4, DX * s.C n 7, DX * s.C n 2, DX * s.C n 5, DX * s.C n 8]

/-- An entry of the table: row `q`, node `X, Y, Z`. -/
def Step.T (s : Step) (q : Fin 13) (X Y Z : ℕ) : ℝ := ∑ n, s.row n q * s.mass n * s.W n 0 X * (s.W n 1 Y * s.W n 2 Z)

set_option maxHeartbeats 800000 in
theorem table_at (h : TableIn s v14 v25 v29 v89 v216 v259) (q : Fin 13) (X : Fin 32) (p : Fin 1024) :
    k0_pay60 v14 v25 v29 v89 v216 v259 (ix3 q X p)
      = ((s.T q X.val (p.val / 32) (p.val % 32) : ℝ) : EReal) := by
  pointwise [k0_pay60]
  rw [Step.T, ← coe_sum]
  refine Finset.sum_congr rfl fun n _ => ?_
  fin_cases q
  all_goals
    simp only [Nat.reduceSub, Nat.reduceLT, Nat.reduceAdd, Fin.reduceFinMk, ↓reduceDIte, Nat.lt_irrefl, Nat.zero_lt_one, Nat.zero_lt_succ, Nat.sub_self, Nat.add_zero, Fin.zero_eta, Fin.mk_one]
    simp only [h.C, h.W, h.B, h.vol, h.vel, h.g, ofBits_density, ofBits_DX, ← EReal.coe_mul, ← EReal.coe_add, ← EReal.coe_sub, ← EReal.coe_one]
    rfl

end

end Cert.Mpm

end
-- ==== Proof.KernelVelocity.lean ====
/- The velocity of a grid node as the kernel computes it, out of the table of sums. -/
module

public import proofs.«01_k».proof.Proof.KernelGrid

@[expose] public section

set_option maxRecDepth 16384

noncomputable section

namespace Cert.Mpm

open Idealize.ShloMosaic Idealize.ShloMosaic.Routing Cert.KernelIdeal Cert.KernelIdeal.Gen

variable {s : Step}

/-! ## The table's rows as mass and momentum -/

theorem Step.T_mass (s : Step) (X Y Z : ℕ) : s.T 0 X Y Z = s.GM X Y Z := by
  refine Finset.sum_congr rfl fun n _ => ?_
  simp only [Step.row, Matrix.cons_val_zero]; ring

theorem Step.T_momentum (s : Step) (r : Fin 3) (X Y Z : ℕ) :
    s.T ⟨1 + r.val, by omega⟩ X Y Z + X * s.T ⟨4 + r.val, by omega⟩ X Y Z + Y * s.T ⟨7 + r.val, by omega⟩ X Y Z
      + Z * s.T ⟨10 + r.val, by omega⟩ X Y Z = s.GV r X Y Z := by
  simp only [Step.T, Step.GV, Finset.mul_sum, ← Finset.sum_add_distrib]
  refine Finset.sum_congr rfl fun n _ => ?_
  fin_cases r
  · show s.row n 1 * _ * _ * _ + _ * (s.row n 4 * _ * _ * _) + _ * (s.row n 7 * _ * _ * _) + _ * (s.row n 10 * _ * _ * _) = _ * s.push n 0 X Y Z
    show (s.vel n 0 - (DX * s.C n 0 * s.g n 0 + DX * s.C n 1 * s.g n 1 + DX * s.C n 2 * s.g n 2)) * _ * _ * _
      + _ * ((DX * s.C n 0) * _ * _ * _) + _ * ((DX * s.C n 1) * _ * _ * _) + _ * ((DX * s.C n 2) * _ * _ * _)
      = _ * (s.vel n 0 + ((X - s.g n 0) * DX * s.C n 0 + (Y - s.g n 1) * DX * s.C n 1 + (Z - s.g n 2) * DX * s.C n 2))
    ring
  · show (s.vel n 1 - (DX * s.C n 3 * s.g n 0 + DX * s.C n 4 * s.g n 1 + DX * s.C n 5 * s.g n 2)) * _ * _ * _
      + _ * ((DX * s.C n 3) * _ * _ * _) + _ * ((DX * s.C n 4) * _ * _ * _) + _ * ((DX * s.C n 5) * _ * _ * _)
      = _ * (s.vel n 1 + ((X - s.g n 0) * DX * s.C n 3 + (Y - s.g n 1) * DX * s.C n 4 + (Z - s.g n 2) * DX * s.C n 5))
    ring
  · show (s.vel n 2 - (DX * s.C n 6 * s.g n 0 + DX * s.C n 7 * s.g n 1 + DX * s.C n 8 * s.g n 2)) * _ * _ * _
      + _ * ((DX * s.C n 6) * _ * _ * _) + _ * ((DX * s.C n 7) * _ * _ * _) + _ * ((DX * s.C n 8) * _ * _ * _)
      = _ * (s.vel n 2 + ((X - s.g n 0) * DX * s.C n 6 + (Y - s.g n 1) * DX * s.C n 7 + (Z - s.g n 2) * DX * s.C n 8))
    ring

/-! ## Node numbers as numbers -/

theorem sitofp_word (k : ℕ) (h : k < 2 ^ 31) (φ : FTy) : FloatOps.sitofp (F := Ideal) φ (BitVec.ofNat 32 k) = ((k : ℝ) : EReal) := by
  show (((BitVec.ofNat 32 k).toInt : ℝ) : EReal) = _
  have e : (BitVec.ofNat 32 k).toInt = (k : ℤ) := by
    rw [BitVec.toInt_eq_toNat_of_lt (by rw [BitVec.toNat_ofNat]; omega), BitVec.toNat_ofNat, Nat.mod_eq_of_lt (by omega)]
  rw [e, Int.cast_natCast]

theorem select_and_left {α : Type} {c : BitVec 1} (h : c = 0#1) (y : BitVec 1) (a b : α) : Scalar.select (IntOp.andi c y) a b = b := by
  subst h
  show Scalar.select (0#1 &&& y) a b = b
  rw [BitVec.zero_and]
  rfl

theorem select_and_right {α : Type} {c : BitVec 1} (h : c = 0#1) (y : BitVec 1) (a b : α) : Scalar.select (IntOp.andi y c) a b = b := by
  subst h
  show Scalar.select (y &&& 0#1) a b = b
  rw [BitVec.and_zero]
  rfl

theorem pay62_at (X : Fin 32) : k0_pay62 (F := Ideal) (ix2 X 0) = ((X.val : ℝ) : EReal) := by
  pointwise [k0_pay62]
  exact sitofp_word _ (by omega) _

theorem cmpi_slt_zero {k : ℕ} (h : k < 2 ^ 31) : IntOp.cmpi .slt (BitVec.ofNat 32 k) 0#32 = 0#1 := by
  unfold IntOp.cmpi
  simp [show (0#32 : BitVec 32) = BitVec.ofNat 32 0 from rfl, slt_ofNat32 h (show 0 < 2 ^ 31 by decide)]

theorem pay63_at (X : Fin 32) (p : Fin 1024) : k0_pay63 (F := Ideal) (ix2 X p) = (((p.val / 32 : ℕ) : ℝ) : EReal) := by
  have hp : p.val < 2 ^ 31 := by omega
  pointwise [k0_pay63]
  rw [show (32#32 : BitVec 32) = BitVec.ofNat 32 32 from rfl, remsi_word .vector hp (by decide) (by decide),
    divsi_word .vector hp (by decide) (by decide), cmpi_slt_zero hp]
  rcases Nat.eq_zero_or_pos p.val with h | h
  · rw [select_and_right (by rw [h]; decide)]
    exact sitofp_word _ (by omega) _
  · have hg : IntOp.cmpi .sgt (BitVec.ofNat 32 p.val) 0#32 = 1#1 := by
      unfold IntOp.cmpi
      simp [show (0#32 : BitVec 32) = BitVec.ofNat 32 0 from rfl, slt_ofNat32 (show 0 < 2 ^ 31 by decide) hp, h]
    rw [hg, select_and_left (by decide)]
    exact sitofp_word _ (by omega) _

theorem pay64_at (X : Fin 32) (p : Fin 1024) : k0_pay64 (F := Ideal) (ix2 X p) = (((p.val % 32 : ℕ) : ℝ) : EReal) := by
  have hp : p.val < 2 ^ 31 := by omega
  pointwise [k0_pay64]
  rw [show Scalar.select (Scalar.cmpi .eq 32#32 0#32) 1#32 32#32 = BitVec.ofNat 32 32 from rfl, remsi_word .vector hp (by decide) (by decide),
    cmpi_slt_zero (show p.val % 32 < 2 ^ 31 by omega), select_and_left (by decide)]
  exact sitofp_word _ (by omega) _

/-! ## The velocity of a node -/

section
variable {v276 : FVec Ideal S13x32x1024 .f32} {v278 v306 v323 : FVec Ideal S32x1024 .f32} {v281 : FVec Ideal S32x1 .f32}

/-- What the node velocities' hypotheses are: the table, its mass row, and the node numbers. -/
structure GridIn (s : Step) (v276 : FVec Ideal S13x32x1024 .f32) (v278 : FVec Ideal S32x1024 .f32) (v281 : FVec Ideal S32x1 .f32)
    (v306 v323 : FVec Ideal S32x1024 .f32) : Prop where
  T : ∀ q X p, v276 (ix3 q X p) = ((s.T q X.val (p.val / 32) (p.val % 32) : ℝ) : EReal)
  M : ∀ X p, v278 (ix2 X p) = ((s.GM X.val (p.val / 32) (p.val % 32) : ℝ) : EReal)
  X : ∀ X, v281 (ix2 X 0) = ((X.val : ℝ) : EReal)
  Y : ∀ X p, v306 (ix2 X p) = (((p.val / 32 : ℕ) : ℝ) : EReal)
  Z : ∀ X p, v323 (ix2 X p) = (((p.val % 32 : ℕ) : ℝ) : EReal)

theorem GridIn.of_table (hT : ∀ q X p, v276 (ix3 q X p) = ((s.T q X.val (p.val / 32) (p.val % 32) : ℝ) : EReal)) :
    GridIn s v276 (k0_pay61 v276) k0_pay62 k0_pay63 k0_pay64 where
  T := hT
  M X p := by
    pointwise [k0_pay61]
    rw [hT, Step.T_mass]
  X := pay62_at
  Y := pay63_at
  Z := pay64_at

theorem velocity_at (h : GridIn s v276 v278 v281 v306 v323) (q : Fin 96) (p : Fin 1024) :
    k0_pay65 v276 v278 v281 v306 v323 (ix2 q p)
      = ((s.gv ⟨q.val / 32, by omega⟩ (q.val % 32) (p.val / 32) (p.val % 32) : ℝ) : EReal) := by
  pointwise [k0_pay65]
  rw [h.T, h.T, h.T, h.T, h.M, h.X, h.Y, h.Z, ofBits_EPS]
  simp only [← EReal.coe_mul, ← EReal.coe_add, ← EReal.coe_one, EReal.coe_lt_coe_iff, coe_ite]
  refine (coe_div _ (s.safe_ne (q.val % 32) (p.val / 32) (p.val % 32))).trans ?_
  rw [Step.gv, ← Step.T_momentum]

end

end Cert.Mpm

end
-- ==== Proof.KernelGradient.lean ====
/- The velocity gradient at a particle as the kernel computes it: sums over all nodes of the window against the
   spread weights are sums over the particle's 27 nodes. -/
module

public import proofs.«01_k».proof.Proof.KernelVelocity

@[expose] public section

set_option maxRecDepth 16384

noncomputable section

namespace Cert.Mpm

open Idealize.ShloMosaic Cert.KernelIdeal Cert.KernelIdeal.Gen

variable {s : Step}

/-- A sum over the window against three spread weights. -/
theorem sum_window (u v w : Fin 3 → ℝ) {a b c : ℕ} (ha : a ≤ 24) (hb : b ≤ 24) (hc : c ≤ 24) (h : ℕ → ℕ → ℕ → ℝ) :
    ∑ X : Fin 32, spread u a X.val * ∑ p : Fin 1024, h X.val (p.val / 32) (p.val % 32) * (spread v b (p.val / 32) * spread w c (p.val % 32))
      = ∑ i : Fin 3, ∑ j : Fin 3, ∑ k : Fin 3, h (a + i.val) (b + j.val) (c + k.val) * (u i * v j * w k) := by
  have inner : ∀ X : ℕ, ∑ p : Fin 1024, h X (p.val / 32) (p.val % 32) * (spread v b (p.val / 32) * spread w c (p.val % 32))
      = ∑ j : Fin 3, v j * ∑ k : Fin 3, w k * h X (b + j.val) (c + k.val) := by
    intro X
    rw [sum_pair fun y z => h X y z * (spread v b y * spread w c z), ← sum_spread v b hb fun y => ∑ k : Fin 3, w k * h X y (c + k.val)]
    refine Finset.sum_congr rfl fun y _ => ?_
    rw [← sum_spread w c hc fun z => h X y.val z, Finset.mul_sum]
    refine Finset.sum_congr rfl fun z _ => ?_
    ring
  simp only [inner]
  rw [sum_spread u a ha fun X => ∑ j : Fin 3, v j * ∑ k : Fin 3, w k * h X (b + j.val) (c + k.val)]
  refine Finset.sum_congr rfl fun i _ => ?_
  simp only [Finset.mul_sum]
  refine Finset.sum_congr rfl fun j _ => Finset.sum_congr rfl fun k _ => ?_
  ring

theorem sum_gradient (hs : s.InBox) (n : Fin 2048) (r e : Fin 3) (u v w : Fin 3 → ℝ)
    (hd : ∀ i j k, u i * v j * w k = s.dweight n e i j k) :
    25 / 2 * ∑ X : Fin 32, spread u (s.b n 0) X.val * ∑ p : Fin 1024, s.gv r X.val (p.val / 32) (p.val % 32)
        * (spread v (s.b n 1) (p.val / 32) * spread w (s.b n 2) (p.val % 32)) = s.NF n r e := by
  rw [sum_window u v w (s.b_le hs n 0) (s.b_le hs n 1) (s.b_le hs n 2) fun X Y Z => s.gv r X Y Z, Step.NF, Finset.mul_sum]
  refine Finset.sum_congr rfl fun i _ => ?_
  rw [Finset.mul_sum]
  refine Finset.sum_congr rfl fun j _ => ?_
  rw [Finset.mul_sum]
  refine Finset.sum_congr rfl fun k _ => ?_
  rw [hd]; ring

section
variable {v89 v92 : FVec Ideal S32x2048 .f32} {vB : FVec Ideal S1024x2048 .bf16}
  {v276 : FVec Ideal S13x32x1024 .f32} {v278 v306 v323 : FVec Ideal S32x1024 .f32} {v281 : FVec Ideal S32x1 .f32}

/-- A product of a weight over a line with a contraction over a row of the grid, as a real number. -/
theorem gradient_lift (hG : GridIn s v276 v278 v281 v306 v323) (vA : FVec Ideal S32x2048 .f32) (A : Fin 2048 → ℕ → ℝ) (B : Fin 2048 → ℕ → ℕ → ℝ)
    (hA : ∀ l n, vA (ix2 l n) = ((A n l.val : ℝ) : EReal)) (hB : ∀ p n, vB (ix2 p n) = ((B n (p.val / 32) (p.val % 32) : ℝ) : EReal))
    (r : Fin 3) (n : Fin 2048) (hq : ∀ x : Fin 32, r.val * 32 + x.val < 96) :
    Ideal.ofBits .f32 0x41480000#32 * ∑ x : Fin 32, vA (ix2 x n) * ∑ y : Fin 1024, k0_pay65 v276 v278 v281 v306 v323 (ix2 ⟨r.val * 32 + x.val, hq x⟩ y) * vB (ix2 y n)
      = ((25 / 2 * ∑ X : Fin 32, A n X.val * ∑ p : Fin 1024, s.gv r X.val (p.val / 32) (p.val % 32) * B n (p.val / 32) (p.val % 32) : ℝ) : EReal) := by
  rw [ofBits_invdx, EReal.coe_mul, ← coe_sum]
  congr 1
  refine Finset.sum_congr rfl fun x _ => ?_
  rw [hA, EReal.coe_mul, ← coe_sum]
  congr 1
  refine Finset.sum_congr rfl fun y _ => ?_
  rw [velocity_at hG, hB, ← EReal.coe_mul]
  have e1 : (⟨(r.val * 32 + x.val) / 32, by omega⟩ : Fin 3) = r := Fin.ext (by show (r.val * 32 + x.val) / 32 = r.val; omega)
  have e2 : (r.val * 32 + x.val) % 32 = x.val := by omega
  simp only [e1, e2]

theorem gradient0_at (hs : s.InBox) (hG : GridIn s v276 v278 v281 v306 v323) (h92 : ∀ l n, v92 (ix2 l n) = ((s.dW n 0 l.val : ℝ) : EReal))
    (hB : ∀ p n, vB (ix2 p n) = ((s.W n 1 (p.val / 32) * s.W n 2 (p.val % 32) : ℝ) : EReal)) (r : Fin 3) (n : Fin 2048) :
    k0_pay66 v92 vB v276 v278 v281 v306 v323 (ix2 r n) = ((s.NF n r 0 : ℝ) : EReal) := by
  pointwise [k0_pay66]
  rw [gradient_lift hG v92 (fun n l => s.dW n 0 l) (fun n y z => s.W n 1 y * s.W n 2 z) h92 hB]
  exact congrArg _ (sum_gradient hs n r 0 (dwt (s.fx n 0)) (wt (s.fx n 1)) (wt (s.fx n 2)) fun i j k => rfl)

theorem gradient1_at (hs : s.InBox) (hG : GridIn s v276 v278 v281 v306 v323) (h89 : ∀ l n, v89 (ix2 l n) = ((s.W n 0 l.val : ℝ) : EReal))
    (hB : ∀ p n, vB (ix2 p n) = ((s.dW n 1 (p.val / 32) * s.W n 2 (p.val % 32) : ℝ) : EReal)) (r : Fin 3) (n : Fin 2048) :
    k0_pay67 v89 vB v276 v278 v281 v306 v323 (ix2 r n) = ((s.NF n r 1 : ℝ) : EReal) := by
  pointwise [k0_pay67]
  rw [gradient_lift hG v89 (fun n l => s.W n 0 l) (fun n y z => s.dW n 1 y * s.W n 2 z) h89 hB]
  exact congrArg _ (sum_gradient hs n r 1 (wt (s.fx n 0)) (dwt (s.fx n 1)) (wt (s.fx n 2)) fun i j k => rfl)

theorem gradient2_at (hs : s.InBox) (hG : GridIn s v276 v278 v281 v306 v323) (h89 : ∀ l n, v89 (ix2 l n) = ((s.W n 0 l.val : ℝ) : EReal))
    (hB : ∀ p n, vB (ix2 p n) = ((s.W n 1 (p.val / 32) * s.dW n 2 (p.val % 32) : ℝ) : EReal)) (r : Fin 3) (n : Fin 2048) :
    k0_pay68 v89 vB v276 v278 v281 v306 v323 (ix2 r n) = ((s.NF n r 2 : ℝ) : EReal) := by
  pointwise [k0_pay68]
  rw [gradient_lift hG v89 (fun n l => s.W n 0 l) (fun n y z => s.W n 1 y * s.dW n 2 z) h89 hB]
  exact congrArg _ (sum_gradient hs n r 2 (wt (s.fx n 0)) (wt (s.fx n 1)) (dwt (s.fx n 2)) fun i j k => rfl)

end

end Cert.Mpm

end
-- ==== Proof.KernelTotal.lean ====
/- One grid step of the kernel: from the step's six blocks to its sum of absolute errors. -/
module

public import proofs.«01_k».proof.Proof.KernelGradient

@[expose] public section

set_option maxRecDepth 16384

noncomputable section

namespace Cert.Mpm

open Idealize.ShloMosaic Cert.KernelIdeal Cert.KernelIdeal.Gen

/-! ## The step's value as the composition of its parts -/

section
variable {F : FTy → Type} [FloatOps F] [Named F]

/-- Node numbers along the first axis of a table. -/
def nodes : IVec S32x2048 32 := iota .tc S32x2048 32 [0] iota_S32x2048_d0_w32

variable (x0 x1 : Vec F S1x1x2048x3 .f32) (x2 x3 x4 : Vec F S1x1x2048x9 .f32) (x5 : Vec F S1x1x2048 .f32)

/-- The three weights and derivatives over the 32 nodes of each axis. -/
def weight0 : FVec F S32x2048 .f32 :=
  k0_pay24 nodes (k0_pay14 (k0_pay8 x0) k0_pay9) (k0_pay15 (k0_pay8 x0) k0_pay9) (k0_pay16 (k0_pay8 x0) k0_pay9)
    (k0_pay20 (k0_pay8 x0) k0_pay9) (k0_pay22 (k0_pay8 x0) k0_pay9)
def dweight0 : FVec F S32x2048 .f32 :=
  k0_pay25 nodes (k0_pay14 (k0_pay8 x0) k0_pay9) (k0_pay17 (k0_pay8 x0) k0_pay9) (k0_pay18 (k0_pay8 x0) k0_pay9)
    (k0_pay21 (k0_pay8 x0) k0_pay9) (k0_pay22 (k0_pay8 x0) k0_pay9)
def cell : IVec S3x2048 32 := k0_pay11 (k0_pay8 x0) k0_pay9
def offset : FVec F S3x2048 .f32 := k0_pay12 (k0_pay8 x0) k0_pay9
def weight1 : FVec F S32x2048 .f32 :=
  k0_pay40 nodes (k0_pay27 (cell x0)) (k0_pay28 (offset x0)) (k0_pay29 (offset x0)) (k0_pay30 (offset x0)) k0_pay34 (k0_pay36 (cell x0))
def dweight1 : FVec F S32x2048 .f32 :=
  k0_pay41 nodes (k0_pay27 (cell x0)) (k0_pay31 (offset x0)) (k0_pay32 (offset x0)) (k0_pay33 (offset x0)) k0_pay35 (k0_pay36 (cell x0))

/-- Their pairs over the 1024 nodes of the two inner axes. -/
def pair0 : FVec F S1024x2048 .bf16 :=
  k0_pay55 nodes (weight1 x0) (k0_pay43 (cell x0)) (k0_pay44 (offset x0)) (k0_pay45 (offset x0)) (k0_pay46 (offset x0))
def pair1 : FVec F S1024x2048 .bf16 :=
  k0_pay56 nodes (dweight1 x0) (k0_pay43 (cell x0)) (k0_pay44 (offset x0)) (k0_pay45 (offset x0)) (k0_pay46 (offset x0))
def pair2 : FVec F S1024x2048 .bf16 :=
  k0_pay59 (k0_pay57 nodes (k0_pay42 (offset x0)) (k0_pay43 (cell x0)) (k0_pay47 (offset x0)) (k0_pay48 (offset x0)) k0_pay49)
    (k0_pay58 (weight1 x0))

/-- The table of sums, and the three columns of the velocity gradient. -/
def table : FVec F S13x32x1024 .f32 := k0_pay60 (k0_pay5 x4) (k0_pay7 x0 x1) (k0_pay8 x0) (weight0 x0) (pair0 x0) x5
def gradient0 : FVec F S3x2048 .f32 :=
  k0_pay66 (dweight0 x0) (pair0 x0) (table x0 x1 x4 x5) (k0_pay61 (table x0 x1 x4 x5)) k0_pay62 k0_pay63 k0_pay64
def gradient1 : FVec F S3x2048 .f32 :=
  k0_pay67 (weight0 x0) (pair1 x0) (table x0 x1 x4 x5) (k0_pay61 (table x0 x1 x4 x5)) k0_pay62 k0_pay63 k0_pay64
def gradient2 : FVec F S3x2048 .f32 :=
  k0_pay68 (weight0 x0) (pair2 x0) (table x0 x1 x4 x5) (k0_pay61 (table x0 x1 x4 x5)) k0_pay62 k0_pay63 k0_pay64

/-- The sum of absolute errors, out of the deformation gradients and the velocity gradient. -/
def errors (v8 v11 : FVec F S9x2048 .f32) (v358 v365 v372 : FVec F S3x2048 .f32) : FVec F S1x1x1 .f32 :=
  k0_pay78 v8 v11 v358 v365 v372
    (k0_pay76 v8 v11 v358 v365 v372
      (k0_pay73 v8 v11 v358 v365 v372 (k0_pay69 v8 v11 v358 v365 v372) (k0_pay70 v8) (k0_pay71 v358) (k0_pay72 v8))
      (k0_pay74 v8 v358) (k0_pay75 v8 v365))
    (k0_pay77 v8 v358 v365 v372)

def stepTotal : FVec F S1x1x1 .f32 :=
  errors (k0_pay3 x2) (k0_pay4 x3) (gradient0 x0 x1 x4 x5) (gradient1 x0 x1 x4 x5) (gradient2 x0 x1 x4 x5)

end

/-! ## Its value -/

variable {s : Step}

theorem errors_at {v8 v11 : FVec Ideal S9x2048 .f32} {v358 v365 v372 : FVec Ideal S3x2048 .f32}
    (h8 : ∀ j n, v8 (ix2 j n) = ((s.F n j : ℝ) : EReal)) (h11 : ∀ j n, v11 (ix2 j n) = ((s.Fn n j : ℝ) : EReal))
    (h358 : ∀ r n, v358 (ix2 r n) = ((s.NF n r 0 : ℝ) : EReal)) (h365 : ∀ r n, v365 (ix2 r n) = ((s.NF n r 1 : ℝ) : EReal))
    (h372 : ∀ r n, v372 (ix2 r n) = ((s.NF n r 2 : ℝ) : EReal)) :
    errors v8 v11 v358 v365 v372 (ix3 0 0 0) = ((s.total : ℝ) : EReal) := by
  pointwise [errors, k0_pay78, k0_pay77, k0_pay76, k0_pay75, k0_pay74, k0_pay73, k0_pay72, k0_pay71, k0_pay70, k0_pay69]
  simp only [h8, h11, h358, h365, h372, ofBits_DT, Ideal.absf_def, ← EReal.coe_mul, ← EReal.coe_add, ← EReal.coe_sub, coe_abs, coe_sum]
  congr 1
  simp only [Fin.sum_univ_one, Step.total]
  refine Finset.sum_congr rfl fun n _ => ?_
  have e : ∀ r c : Fin 3, (∑ k : Fin 3, ((if r = k then 1 else 0) + s.NF n r k * DT) * s.F n (rc k c))
      = s.F n (rc r c) + DT * s.NF n r 0 * s.F n (rc 0 c) + DT * s.NF n r 1 * s.F n (rc 1 c) + DT * s.NF n r 2 * s.F n (rc 2 c) := by
    intro r c
    rw [Fin.sum_univ_three]
    fin_cases r
    all_goals
      simp only [Fin.zero_eta, Fin.mk_one, Fin.reduceFinMk, Fin.isValue, Fin.reduceEq, zero_ne_one, one_ne_zero, if_true, if_false]
      ring
  simp only [Step.loss, e]
  simp only [Fin.sum_univ_three, add_assoc]
  rfl

section
variable {x0 x1 : Vec Ideal S1x1x2048x3 .f32} {x2 x3 x4 : Vec Ideal S1x1x2048x9 .f32} {x5 : Vec Ideal S1x1x2048 .f32}

/-- The blocks of a grid step hold the step's numbers. -/
structure BlocksIn (s : Step) (x0 x1 : Vec Ideal S1x1x2048x3 .f32) (x2 x3 x4 : Vec Ideal S1x1x2048x9 .f32) (x5 : Vec Ideal S1x1x2048 .f32) :
    Prop where
  box : s.InBox
  hx : ∀ n a, x0 (ix4 0 0 n a) = ((s.x n a : ℝ) : EReal)
  hx2 : ∀ n a, x1 (ix4 0 0 n a) = ((s.x2 n a : ℝ) : EReal)
  hF : ∀ n j, x2 (ix4 0 0 n j) = ((s.F n j : ℝ) : EReal)
  hFn : ∀ n j, x3 (ix4 0 0 n j) = ((s.Fn n j : ℝ) : EReal)
  hC : ∀ n j, x4 (ix4 0 0 n j) = ((s.C n j : ℝ) : EReal)
  hvol : ∀ n, x5 (ix3 0 0 n) = ((s.vol n : ℝ) : EReal)

theorem nodes_at (l : Fin 32) (n : Fin 2048) : nodes (ix2 l n) = BitVec.ofNat 32 l.val := by
  pointwise [nodes]

theorem stepTotal_at (h : BlocksIn s x0 x1 x2 x3 x4 x5) : stepTotal x0 x1 x2 x3 x4 x5 (ix3 0 0 0) = ((s.total : ℝ) : EReal) := by
  have h29 := pay8_at x0 h.hx
  have h30 := pay9_at
  have h33 : ∀ a n, cell x0 (ix2 a n) = BitVec.ofNat 32 (s.b n a) := pay11_at h.box h29 h30
  have h34 : ∀ a n, offset x0 (ix2 a n) = ((s.fx n a : ℝ) : EReal) := pay12_at h.box h29 h30
  have hW0 : ∀ l n, weight0 x0 (ix2 l n) = ((s.W n 0 l.val : ℝ) : EReal) := weight0_at h.box h29 h30 nodes nodes_at
  have hD0 : ∀ l n, dweight0 x0 (ix2 l n) = ((s.dW n 0 l.val : ℝ) : EReal) := dweight0_at h.box h29 h30 nodes nodes_at
  have hW1 : ∀ l n, weight1 x0 (ix2 l n) = ((s.W n 1 l.val : ℝ) : EReal) := weight1_at h.box h33 h34 nodes_at
  have hD1 : ∀ l n, dweight1 x0 (ix2 l n) = ((s.dW n 1 l.val : ℝ) : EReal) := dweight1_at h.box h33 h34 nodes_at
  have hP0 : ∀ p n, pair0 x0 (ix2 p n) = ((s.W n 1 (p.val / 32) * s.W n 2 (p.val % 32) : ℝ) : EReal) :=
    pair0_at hW1 (weight2_at h.box h33 h34 nodes_at)
  have hP1 : ∀ p n, pair1 x0 (ix2 p n) = ((s.dW n 1 (p.val / 32) * s.W n 2 (p.val % 32) : ℝ) : EReal) :=
    pair1_at hD1 (weight2_at h.box h33 h34 nodes_at)
  have hP2 : ∀ p n, pair2 x0 (ix2 p n) = ((s.W n 1 (p.val / 32) * s.dW n 2 (p.val % 32) : ℝ) : EReal) :=
    pair2_at hW1 (dweight2_at h.box h33 h34 nodes_at)
  have hC : ∀ j n, k0_pay5 x4 (ix2 j n) = ((s.C n j : ℝ) : EReal) := fun j n => by
    rw [← h.hC]; pointwise [k0_pay5]
  have hF : ∀ j n, k0_pay3 x2 (ix2 j n) = ((s.F n j : ℝ) : EReal) := fun j n => by
    rw [← h.hF]; pointwise [k0_pay3]
  have hFn : ∀ j n, k0_pay4 x3 (ix2 j n) = ((s.Fn n j : ℝ) : EReal) := fun j n => by
    rw [← h.hFn]; pointwise [k0_pay4]
  have hG := GridIn.of_table (v276 := table x0 x1 x4 x5)
    (table_at ⟨hC, pay7_at x0 x1 h.hx h.hx2, h29, hW0, hP0, h.hvol⟩)
  exact errors_at hF hFn (gradient0_at h.box hG hD0 hP0) (gradient1_at h.box hG hW0 hP1) (gradient2_at h.box hG hW0 hP2)

end

end Cert.Mpm

end
-- ==== Proof.KernelPoint.lean ====
/- What one grid point of the kernel leaves in the accumulator: at the first point the step's share of the mean, at
   a later one that share added to what the point before left. -/
module

public import proofs.«01_k».proof.Proof.KernelTotal
public import proofs.«01_k».proof.Proof.Gen.KernelIdeal.Frame

@[expose] public section

set_option maxRecDepth 16384

noncomputable section

namespace Cert.Mpm

open Idealize.ShloMosaic Idealize.ShloMosaic.TcCoe Idealize.ShloMosaic.Tactic Cert.KernelIdeal Cert.KernelIdeal.Gen

variable {F : FTy → Type} [FloatOps F] [Named F]

theorem zero2 : (![0, 0] : Fin 2 → Nat) = fun _ => 0 := by funext a; fin_cases a <;> rfl
theorem zero3 : (![0, 0, 0] : Fin 3 → Nat) = fun _ => 0 := by funext a; fin_cases a <;> rfl
theorem zero4 : (![0, 0, 0, 0] : Fin 4 → Nat) = fun _ => 0 := by funext a; fin_cases a <;> rfl

theorem first_point (c : Dev nD) (i : grid0.Coords) (arg1 : Memref sig .tc .vmem S1x1x2048x3 .f32) (harg1 : arg1.IsWhole) (arg2 : Memref sig .tc .vmem S1x1x2048x3 .f32) (harg2 : arg2.IsWhole) (arg3 : Memref sig .tc .vmem S1x1x2048x9 .f32) (harg3 : arg3.IsWhole) (arg4 : Memref sig .tc .vmem S1x1x2048x9 .f32) (harg4 : arg4.IsWhole) (arg5 : Memref sig .tc .vmem S1x1x2048x9 .f32) (harg5 : arg5.IsWhole) (arg6 : Memref sig .tc .vmem S1x1x2048 .f32) (harg6 : arg6.IsWhole) (arg7 : Memref sig .tc .smem S1x1 .f32) (harg7 : arg7.IsWhole) (hc0 : cond0_0 i) (hc1 : ¬cond0_1 i)
    (x0 : Vec F S1x1x2048x3 .f32) (x1 : Vec F S1x1x2048x3 .f32) (x2 : Vec F S1x1x2048x9 .f32) (x3 : Vec F S1x1x2048x9 .f32) (x4 : Vec F S1x1x2048x9 .f32) (x5 : Vec F S1x1x2048 .f32) :
    out0_A_6 c i arg1 harg1 arg2 harg2 arg3 harg3 arg4 harg4 arg5 harg5 arg6 harg6 arg7 harg7 hc0 hc1 x0 x1 x2 x3 x4 x5
      = fun _ => k0_pay1 (stepTotal x0 x1 x2 x3 x4 x5) := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4 x5)]
  unfold kernelRun0_A
  dsimp only
  rw [View.canon_unit_zero zero2]
  sl_unfold_words
  simp only [View.readAt_eq_ld, harg1.read_unread, harg2.read_unread, harg3.read_unread, harg4.read_unread, harg5.read_unread, harg6.read_unread,
    View.ld_unit_zero (S := S1x1x2048x3) zero4, View.ld_unit_zero (S := S1x1x2048x9) zero4, View.ld_unit_zero (S := S1x1x2048) zero3,
    stepTotal, errors, gradient0, gradient1, gradient2, table, pair0, pair1, pair2, weight0, weight1, dweight0, dweight1, cell, offset, nodes]
  generalize k0_pay76 (F := F) _ _ _ _ _ _ _ _ = z1
  generalize k0_pay77 (F := F) _ _ _ _ = z2
  generalize k0_pay66 (F := F) _ _ _ _ _ _ _ = z3
  generalize k0_pay67 (F := F) _ _ _ _ _ _ _ = z4
  generalize k0_pay68 (F := F) _ _ _ _ _ _ _ = z5
  rfl

theorem later_point (c : Dev nD) (i : grid0.Coords) (arg1 : Memref sig .tc .vmem S1x1x2048x3 .f32) (harg1 : arg1.IsWhole) (arg2 : Memref sig .tc .vmem S1x1x2048x3 .f32) (harg2 : arg2.IsWhole) (arg3 : Memref sig .tc .vmem S1x1x2048x9 .f32) (harg3 : arg3.IsWhole) (arg4 : Memref sig .tc .vmem S1x1x2048x9 .f32) (harg4 : arg4.IsWhole) (arg5 : Memref sig .tc .vmem S1x1x2048x9 .f32) (harg5 : arg5.IsWhole) (arg6 : Memref sig .tc .vmem S1x1x2048 .f32) (harg6 : arg6.IsWhole) (arg7 : Memref sig .tc .smem S1x1 .f32) (harg7 : arg7.IsWhole) (hc0 : ¬cond0_0 i) (hc1 : cond0_1 i)
    (x0 : Vec F S1x1x2048x3 .f32) (x1 : Vec F S1x1x2048x3 .f32) (x2 : Vec F S1x1x2048x9 .f32) (x3 : Vec F S1x1x2048x9 .f32) (x4 : Vec F S1x1x2048x9 .f32) (x5 : Vec F S1x1x2048 .f32) (xo6 : Vec F S1x1 .f32) :
    out0_B_6 c i arg1 harg1 arg2 harg2 arg3 harg3 arg4 harg4 arg5 harg5 arg6 harg6 arg7 harg7 hc0 hc1 x0 x1 x2 x3 x4 x5 xo6
      = fun _ => k0_pay2 (stepTotal x0 x1 x2 x3 x4 x5) (xo6 (ix2 0 0)) := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 x5 xo6)]
  unfold kernelRun0_B
  dsimp only
  rw [View.canon_unit_zero zero2]
  sl_unfold_words
  simp only [View.readAt_eq_ld, harg1.read_unread, harg2.read_unread, harg3.read_unread, harg4.read_unread, harg5.read_unread, harg6.read_unread,
    harg7.read_unread,
    View.ld_unit_zero (S := S1x1x2048x3) zero4, View.ld_unit_zero (S := S1x1x2048x9) zero4, View.ld_unit_zero (S := S1x1x2048) zero3,
    View.ld_unit_zero (S := S1x1) zero2,
    stepTotal, errors, gradient0, gradient1, gradient2, table, pair0, pair1, pair2, weight0, weight1, dweight0, dweight1, cell, offset, nodes]
  generalize k0_pay76 (F := F) _ _ _ _ _ _ _ _ = z1
  generalize k0_pay77 (F := F) _ _ _ _ = z2
  generalize k0_pay66 (F := F) _ _ _ _ _ _ _ = z3
  generalize k0_pay67 (F := F) _ _ _ _ _ _ _ = z4
  generalize k0_pay68 (F := F) _ _ _ _ _ _ _ = z5
  funext p
  refine congrArg (k0_pay2 _) (congrArg xo6 ?_)
  funext a
  fin_cases a <;> exact Subsingleton.elim (α := Fin 1) _ _

end Cert.Mpm

end
-- ==== Proof.Inputs.lean ====
/- The four arguments as real numbers: what the precondition says of them, and the numbers of each of the four steps
   (two batches, two frames). -/
module

public import proofs.«01_k».proof.Proof.Spec
public import proofs.«01_k».proof.Proof.KernelTotal

@[expose] public section

set_option maxRecDepth 16384

noncomputable section

namespace Cert.Mpm

open Idealize.ShloMosaic Cert.KernelIdeal

/-- The batch of a step. -/
def batch (t : Fin 4) : Fin 2 := ⟨t.val / 2, by omega⟩

/-- Its frame, and the frames after it. -/
def frame (t : Fin 4) (d : Fin 3) : Fin 4 := ⟨t.val % 2 + d.val, by omega⟩

/-- Positions lie in the unit box; volumes and the two fields are finite. -/
structure ArgsIn (x : Vec Ideal S2x4x2048x3 .f32) (vol : Vec Ideal S2x2048 .f32) (F C : Vec Ideal S2x4x2048x9 .f32) : Prop where
  box : ∀ b t n a, (0 : EReal) ≤ x (ix4 b t n a) ∧ x (ix4 b t n a) < (1 : EReal)
  vol : ∀ b n, vol (ix2 b n) ≠ ⊥ ∧ vol (ix2 b n) ≠ ⊤
  F : ∀ b t n j, F (ix4 b t n j) ≠ ⊥ ∧ F (ix4 b t n j) ≠ ⊤
  C : ∀ b t n j, C (ix4 b t n j) ≠ ⊥ ∧ C (ix4 b t n j) ≠ ⊤

/-- The numbers of step `t`. -/
def stepOf (x : Vec Ideal S2x4x2048x3 .f32) (vol : Vec Ideal S2x2048 .f32) (F C : Vec Ideal S2x4x2048x9 .f32) (t : Fin 4) : Step where
  x n a := EReal.toReal (x (ix4 (batch t) (frame t 0) n a))
  x2 n a := EReal.toReal (x (ix4 (batch t) (frame t 2) n a))
  vol n := EReal.toReal (vol (ix2 (batch t) n))
  F n j := EReal.toReal (F (ix4 (batch t) (frame t 0) n j))
  Fn n j := EReal.toReal (F (ix4 (batch t) (frame t 1) n j))
  C n j := EReal.toReal (C (ix4 (batch t) (frame t 0) n j))

section
variable {x : Vec Ideal S2x4x2048x3 .f32} {vol : Vec Ideal S2x2048 .f32} {F C : Vec Ideal S2x4x2048x9 .f32}

theorem coe_of_finite {y : EReal} (h : y ≠ ⊥ ∧ y ≠ ⊤) : y = ((y.toReal : ℝ) : EReal) := (EReal.coe_toReal h.2 h.1).symm

theorem finite_of_box {y : EReal} (h : (0 : EReal) ≤ y ∧ y < (1 : EReal)) : y ≠ ⊥ ∧ y ≠ ⊤ :=
  ⟨fun e => absurd h.1 (by rw [e]; exact not_le.mpr (EReal.bot_lt_coe 0)), fun e => absurd h.2 (by rw [e]; exact not_lt.mpr le_top)⟩

theorem ArgsIn.inBox (h : ArgsIn x vol F C) (t : Fin 4) : (stepOf x vol F C t).InBox := by
  intro n a
  have hb := h.box (batch t) (frame t 0) n a
  have he := coe_of_finite (finite_of_box hb)
  rw [he] at hb
  exact ⟨EReal.coe_nonneg.mp hb.1, EReal.coe_lt_coe_iff.mp (by rw [EReal.coe_one]; exact hb.2)⟩

end

end Cert.Mpm

end
-- ==== Proof.KernelBlocks.lean ====
/- The six blocks of a grid step, read off the argument arrays. Grid point `t` works on batch `t / 2`, frame `t % 2`. -/
module

public import proofs.«01_k».proof.Proof.KernelPoint
public import proofs.«01_k».proof.Proof.Inputs

@[expose] public section

set_option maxRecDepth 16384

noncomputable section

namespace Cert.Mpm

open Idealize.ShloMosaic Idealize.ShloMosaic.TcCoe Cert.KernelIdeal Cert.KernelIdeal.Gen

variable {F : FTy → Type} [FloatOps F] [Named F]
variable (m : (ℓ : Loc nD τ sig) → Buf (Elt F) ℓ)

/-- A grid point as a number below 4. -/
def pt (t : Fin cfg0.N) : Fin 4 := Fin.cast N_0 t

/-! Window by window: the positions of this frame and of two frames on, the deformation gradients of this frame and
of the next, the affine velocities. -/

theorem block0_at (c : Dev nD) (t : Fin cfg0.N) (n : Fin 2048) (a : Fin 3) :
    (iblk m c 0 t : Vec F S1x1x2048x3 .f32) (ix4 0 0 n a)
      = (m ((c : Thread nD τ).loc main_arg0) : Vec F S2x4x2048x3 .f32) (ix4 (batch (pt t)) (frame (pt t) 0) n a) := by
  have hi : win0_0.index t 0 = t.val / 2 ∧ win0_0.index t 1 = t.val % 2 + 0 ∧ win0_0.index t 2 = 0 ∧ win0_0.index t 3 = 0 := by
    rcases fin_N0 t with rfl | rfl | rfl | rfl <;> decide
  unfold iblk
  rw [View.read_apply]
  refine (congrFun (V_main_arg0 m c) _).trans ?_
  congr 1
  funext b
  apply Fin.ext
  match b with
  | ⟨0, _⟩ => show win0_0.index t 0 * 1 + 1 * 0 = t.val / 2; rw [hi.1]; omega
  | ⟨1, _⟩ => show win0_0.index t 1 * 1 + 1 * 0 = t.val % 2 + 0; rw [hi.2.1]; omega
  | ⟨2, _⟩ => show win0_0.index t 2 * 2048 + 1 * n.val = n.val; rw [hi.2.2.1]; omega
  | ⟨3, _⟩ => show win0_0.index t 3 * 3 + 1 * a.val = a.val; rw [hi.2.2.2]; omega

theorem block1_at (c : Dev nD) (t : Fin cfg0.N) (n : Fin 2048) (a : Fin 3) :
    (iblk m c 1 t : Vec F S1x1x2048x3 .f32) (ix4 0 0 n a)
      = (m ((c : Thread nD τ).loc main_arg0) : Vec F S2x4x2048x3 .f32) (ix4 (batch (pt t)) (frame (pt t) 2) n a) := by
  have hi : win0_1.index t 0 = t.val / 2 ∧ win0_1.index t 1 = t.val % 2 + 2 ∧ win0_1.index t 2 = 0 ∧ win0_1.index t 3 = 0 := by
    rcases fin_N0 t with rfl | rfl | rfl | rfl <;> decide
  unfold iblk
  rw [View.read_apply]
  refine (congrFun (V_main_arg0 m c) _).trans ?_
  congr 1
  funext b
  apply Fin.ext
  match b with
  | ⟨0, _⟩ => show win0_1.index t 0 * 1 + 1 * 0 = t.val / 2; rw [hi.1]; omega
  | ⟨1, _⟩ => show win0_1.index t 1 * 1 + 1 * 0 = t.val % 2 + 2; rw [hi.2.1]; omega
  | ⟨2, _⟩ => show win0_1.index t 2 * 2048 + 1 * n.val = n.val; rw [hi.2.2.1]; omega
  | ⟨3, _⟩ => show win0_1.index t 3 * 3 + 1 * a.val = a.val; rw [hi.2.2.2]; omega

theorem block2_at (c : Dev nD) (t : Fin cfg0.N) (n : Fin 2048) (a : Fin 9) :
    (iblk m c 2 t : Vec F S1x1x2048x9 .f32) (ix4 0 0 n a)
      = (m ((c : Thread nD τ).loc main_arg2) : Vec F S2x4x2048x9 .f32) (ix4 (batch (pt t)) (frame (pt t) 0) n a) := by
  have hi : win0_2.index t 0 = t.val / 2 ∧ win0_2.index t 1 = t.val % 2 + 0 ∧ win0_2.index t 2 = 0 ∧ win0_2.index t 3 = 0 := by
    rcases fin_N0 t with rfl | rfl | rfl | rfl <;> decide
  unfold iblk
  rw [View.read_apply]
  refine (congrFun (V_main_arg2 m c) _).trans ?_
  congr 1
  funext b
  apply Fin.ext
  match b with
  | ⟨0, _⟩ => show win0_2.index t 0 * 1 + 1 * 0 = t.val / 2; rw [hi.1]; omega
  | ⟨1, _⟩ => show win0_2.index t 1 * 1 + 1 * 0 = t.val % 2 + 0; rw [hi.2.1]; omega
  | ⟨2, _⟩ => show win0_2.index t 2 * 2048 + 1 * n.val = n.val; rw [hi.2.2.1]; omega
  | ⟨3, _⟩ => show win0_2.index t 3 * 9 + 1 * a.val = a.val; rw [hi.2.2.2]; omega

theorem block3_at (c : Dev nD) (t : Fin cfg0.N) (n : Fin 2048) (a : Fin 9) :
    (iblk m c 3 t : Vec F S1x1x2048x9 .f32) (ix4 0 0 n a)
      = (m ((c : Thread nD τ).loc main_arg2) : Vec F S2x4x2048x9 .f32) (ix4 (batch (pt t)) (frame (pt t) 1) n a) := by
  have hi : win0_3.index t 0 = t.val / 2 ∧ win0_3.index t 1 = t.val % 2 + 1 ∧ win0_3.index t 2 = 0 ∧ win0_3.index t 3 = 0 := by
    rcases fin_N0 t with rfl | rfl | rfl | rfl <;> decide
  unfold iblk
  rw [View.read_apply]
  refine (congrFun (V_main_arg2 m c) _).trans ?_
  congr 1
  funext b
  apply Fin.ext
  match b with
  | ⟨0, _⟩ => show win0_3.index t 0 * 1 + 1 * 0 = t.val / 2; rw [hi.1]; omega
  | ⟨1, _⟩ => show win0_3.index t 1 * 1 + 1 * 0 = t.val % 2 + 1; rw [hi.2.1]; omega
  | ⟨2, _⟩ => show win0_3.index t 2 * 2048 + 1 * n.val = n.val; rw [hi.2.2.1]; omega
  | ⟨3, _⟩ => show win0_3.index t 3 * 9 + 1 * a.val = a.val; rw [hi.2.2.2]; omega

theorem block4_at (c : Dev nD) (t : Fin cfg0.N) (n : Fin 2048) (a : Fin 9) :
    (iblk m c 4 t : Vec F S1x1x2048x9 .f32) (ix4 0 0 n a)
      = (m ((c : Thread nD τ).loc main_arg3) : Vec F S2x4x2048x9 .f32) (ix4 (batch (pt t)) (frame (pt t) 0) n a) := by
  have hi : win0_4.index t 0 = t.val / 2 ∧ win0_4.index t 1 = t.val % 2 + 0 ∧ win0_4.index t 2 = 0 ∧ win0_4.index t 3 = 0 := by
    rcases fin_N0 t with rfl | rfl | rfl | rfl <;> decide
  unfold iblk
  rw [View.read_apply]
  refine (congrFun (V_main_arg3 m c) _).trans ?_
  congr 1
  funext b
  apply Fin.ext
  match b with
  | ⟨0, _⟩ => show win0_4.index t 0 * 1 + 1 * 0 = t.val / 2; rw [hi.1]; omega
  | ⟨1, _⟩ => show win0_4.index t 1 * 1 + 1 * 0 = t.val % 2 + 0; rw [hi.2.1]; omega
  | ⟨2, _⟩ => show win0_4.index t 2 * 2048 + 1 * n.val = n.val; rw [hi.2.2.1]; omega
  | ⟨3, _⟩ => show win0_4.index t 3 * 9 + 1 * a.val = a.val; rw [hi.2.2.2]; omega

/-- The volumes are reshaped before the launch, to one row per batch. -/
theorem volumes_at (c : Dev nD) (b : Fin 2) (n : Fin 2048) :
    (V m c main_v0 : Vec F S2x1x2048 .f32) (ix3 b 0 n) = (m ((c : Thread nD τ).loc main_arg1) : Vec F S2x2048 .f32) (ix2 b n) := by
  have h : (V m c main_v0 : Vec F S2x1x2048 .f32)
      = shapeCast S2x1x2048 (m ((c : Thread nD τ).loc main_arg1) : Vec F S2x2048 .f32) shapeCasts_S2x2048_S2x1x2048 := by
    unfold V V0
    rfl
  rw [h]
  pointwise []

theorem block5_at (c : Dev nD) (t : Fin cfg0.N) (n : Fin 2048) :
    (iblk m c 5 t : Vec F S1x1x2048 .f32) (ix3 0 0 n)
      = (m ((c : Thread nD τ).loc main_arg1) : Vec F S2x2048 .f32) (ix2 (batch (pt t)) n) := by
  have hi : win0_5.index t 0 = t.val / 2 ∧ win0_5.index t 1 = 0 ∧ win0_5.index t 2 = 0 := by
    rcases fin_N0 t with rfl | rfl | rfl | rfl <;> decide
  refine Eq.trans ?_ (volumes_at m c (batch (pt t)) n)
  unfold iblk
  rw [View.read_apply]
  show V m c main_v0 _ = V m c main_v0 _
  congr 1
  funext b
  apply Fin.ext
  match b with
  | ⟨0, _⟩ => show win0_5.index t 0 * 1 + 1 * 0 = t.val / 2; rw [hi.1]; omega
  | ⟨1, _⟩ => show win0_5.index t 1 * 1 + 1 * 0 = 0; rw [hi.2.1]
  | ⟨2, _⟩ => show win0_5.index t 2 * 2048 + 1 * n.val = n.val; rw [hi.2.2]; omega

end Cert.Mpm

end
-- ==== Proof.KernelRun.lean ====
/- The kernel's run: after grid point `t` the accumulator holds the sum of the steps' totals up to `t`, divided by the
   number of entries; the result is that sum after the last point. -/
module

public import proofs.«01_k».proof.Proof.KernelBlocks

@[expose] public section

set_option maxRecDepth 16384

noncomputable section

namespace Cert.Mpm

open Idealize.ShloMosaic Idealize.ShloMosaic.TcCoe Idealize.SL.Sem Cert.KernelIdeal Cert.KernelIdeal.Gen

variable (m : (ℓ : Loc nD τ sig) → Buf (Elt Ideal) ℓ)

/-- The four arguments on a device. -/
abbrev argX (c : Dev nD) : Vec Ideal S2x4x2048x3 .f32 := m ((c : Thread nD τ).loc main_arg0)
abbrev argVol (c : Dev nD) : Vec Ideal S2x2048 .f32 := m ((c : Thread nD τ).loc main_arg1)
abbrev argF (c : Dev nD) : Vec Ideal S2x4x2048x9 .f32 := m ((c : Thread nD τ).loc main_arg2)
abbrev argC (c : Dev nD) : Vec Ideal S2x4x2048x9 .f32 := m ((c : Thread nD τ).loc main_arg3)

/-- The numbers of a step, out of the device's arguments. -/
abbrev devStep (c : Dev nD) (t : Fin 4) : Step := stepOf (argX m c) (argVol m c) (argF m c) (argC m c) t

variable {m}

theorem blocksIn {c : Dev nD} (h : ArgsIn (argX m c) (argVol m c) (argF m c) (argC m c)) (t : Fin cfg0.N) :
    BlocksIn (devStep m c (pt t)) (iblk m c 0 t) (iblk m c 1 t) (iblk m c 2 t) (iblk m c 3 t) (iblk m c 4 t) (iblk m c 5 t) where
  box := h.inBox (pt t)
  hx n a := (block0_at m c t n a).trans (coe_of_finite (finite_of_box (h.box ..)))
  hx2 n a := (block1_at m c t n a).trans (coe_of_finite (finite_of_box (h.box ..)))
  hF n j := (block2_at m c t n j).trans (coe_of_finite (h.F ..))
  hFn n j := (block3_at m c t n j).trans (coe_of_finite (h.F ..))
  hC n j := (block4_at m c t n j).trans (coe_of_finite (h.C ..))
  hvol n := (block5_at m c t n).trans (coe_of_finite (h.vol ..))

/-- The first point's store, and a later point's, over the extended reals. -/
theorem first_store {v : FVec Ideal S1x1x1 .f32} {r : ℝ} (h : v (ix3 0 0 0) = ((r : ℝ) : EReal)) :
    k0_pay1 v = ((r * 73728⁻¹ : ℝ) : EReal) := by
  have e : k0_pay1 v = v (ix3 0 0 0) * ((73728⁻¹ : ℝ) : EReal) := by
    pointwise [k0_pay1]
    rfl
  rw [e, h, ← EReal.coe_mul]

theorem later_store {v : FVec Ideal S1x1x1 .f32} {r q : ℝ} (h : v (ix3 0 0 0) = ((r : ℝ) : EReal)) :
    k0_pay2 (F := Ideal) v ((q : ℝ) : EReal) = ((q + r * 73728⁻¹ : ℝ) : EReal) := by
  unfold k0_pay2
  rw [first_store h, EReal.coe_add]
  rfl

/-- The sum of the steps' totals up to point `n`, each divided by the number of entries. -/
def partialSum (s : Fin 4 → Step) : ℕ → ℝ
  | 0 => (s 0).total * 73728⁻¹
  | n + 1 => partialSum s n + (s ⟨(n + 1) % 4, Nat.mod_lt _ (by decide)⟩).total * 73728⁻¹

theorem partialSum_last (s : Fin 4 → Step) : partialSum s 3 = (∑ t, (s t).total) * 73728⁻¹ := by
  simp only [partialSum, Fin.sum_univ_four, add_mul]
  rfl

theorem accumulated {c : Dev nD} (h : ArgsIn (argX m c) (argVol m c) (argF m c) (argC m c)) :
    ∀ (n : ℕ) (hn : n < cfg0.N), outsAt0 m c n hn = fun _ => ((partialSum (devStep m c) n : ℝ) : EReal)
  | 0, hn => by
    refine (outsAt0_A m c ⟨0, hn⟩ rfl (Nat.not_succ_le_zero 0)).trans ((first_point ..).trans ?_)
    funext _
    exact first_store (stepTotal_at (blocksIn h ⟨0, hn⟩))
  | n + 1, hn => by
    have hN : cfg0.N = 4 := N_0
    have h4 : ¬(⟨n + 1, hn⟩ : Fin cfg0.N).val % 4 = 0 := by dsimp only; omega
    refine (outsAt0_B m c ⟨n + 1, hn⟩ h4 (Nat.succ_pos n)).trans ((later_point ..).trans ?_)
    funext _
    have e : outsAt0 m c ((⟨n + 1, hn⟩ : Fin cfg0.N).val - 1) (Nat.lt_of_le_of_lt (Nat.sub_le _ _) hn)
        = fun _ => ((partialSum (devStep m c) n : ℝ) : EReal) := accumulated h n _
    rw [e]
    refine (later_store (stepTotal_at (blocksIn h ⟨n + 1, hn⟩))).trans ?_
    have ht : (⟨(n + 1) % 4, Nat.mod_lt _ (by decide)⟩ : Fin 4) = pt ⟨n + 1, hn⟩ :=
      Fin.ext (Nat.mod_eq_of_lt (hN ▸ hn))
    rw [partialSum, ht]

/-- The kernel's result array: its one entry is the sum after the last point. -/
def resultArray (c : Dev nD) : Buf (Elt Ideal) ((c : Thread nD τ).loc main_v1) :=
  (fun _ => ((partialSum (devStep m c) 3 : ℝ) : EReal) : Vec Ideal S1x1 .f32)

theorem flushed {c : Dev nD} (h : ArgsIn (argX m c) (argVol m c) (argF m c) (argC m c)) (t : Fin cfg0.N)
    (hf : (cfg0.win 6).flush t = true) :
    (dats m 0 c).flushed 6 t = ((cfg0.win 6).blk t).view.read (Elt Ideal) (resultArray (m := m) c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, accumulated h]
  funext i
  rw [View.read_apply]
  rfl

theorem resultArray_eq {c : Dev nD} (h : ArgsIn (argX m c) (argVol m c) (argF m c) (argC m c)) :
    (dats m 0 c).arrAt 6 cfg0.N = resultArray (m := m) c :=
  (dats m 0 c).arrAt_eq_of_cover 6 (resultArray (m := m) c) (flushed h) fun i =>
    ⟨t0_3, (flush0_6 t0_3).mpr rfl, by
      show i ∈ ((View.whole main_v1).slice (win0_6.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_6.index t0_3 0 * win0_6.size 0 ≤ (i 0 : Nat) ∧ (i 0 : Nat) < win0_6.index t0_3 0 * win0_6.size 0 + win0_6.xsize (grid0.coords t0_3) 0
                  rw [show win0_6.index t0_3 0 * win0_6.size 0 = 0 from by decide +kernel, show win0_6.xsize (grid0.coords t0_3) 0 = 1 from by decide +kernel]; omega
      | ⟨1, _⟩ => show win0_6.index t0_3 1 * win0_6.size 1 ≤ (i 1 : Nat) ∧ (i 1 : Nat) < win0_6.index t0_3 1 * win0_6.size 1 + win0_6.xsize (grid0.coords t0_3) 1
                  rw [show win0_6.index t0_3 1 * win0_6.size 1 = 0 from by decide +kernel, show win0_6.xsize (grid0.coords t0_3) 1 = 1 from by decide +kernel]; omega⟩

/-- The host's reshape after the region: the result is the array's one entry. -/
theorem tail_eq {c : Dev nD} (h : ArgsIn (argX m c) (argVol m c) (argF m c) (argC m c)) :
    Pipeline.afterTail₀ cfgs (dats m) 0 (V0 m) [hostOps1] c main_v2
      = (fun _ => (((∑ t, (devStep m c t).total) * 73728⁻¹ : ℝ) : EReal) : Vec Ideal S_ .f32) := by
  have e : Pipeline.afterTail₀ cfgs (dats m) 0 (V0 m) [hostOps1] c main_v2
      = shapeCast S_ (Pipeline.withArrays (cfgs 0).spec c (V0 m c) (fun w => (dats m 0 c).arrAt w (cfgs 0).N)
          (Proc.devRef .tc main_v1) : Vec Ideal S1x1 .f32) shapeCasts_S1x1_S_ := rfl
  have e1 := (dats m 0 c).withArrays_arrAt sharedIn0 (V0 m c) (A_eq m c) 6
  rw [e]
  funext i
  show Pipeline.withArrays (cfgs 0).spec c (V0 m c) (fun w => (dats m 0 c).arrAt w (cfgs 0).N) (Proc.devRef .tc main_v1) _ = _
  rw [← partialSum_last]
  exact congrFun (e1.trans (resultArray_eq h)) _

/-- The kernel's run: its result, and its arguments unchanged. -/
theorem kernel_run (ρ : Dev nD → PrngReg) (h : ∀ c : Dev nD, ArgsIn (argX m c) (argVol m c) (argF m c) (argC m c)) :
    θ_run defs (onTc (τ := τ) (main (F := Ideal))) ⟨m, fun _ => 0, ρ⟩ fun r => ∀ c : Dev nD,
      r.2.mem ((c : Thread nD τ).loc main_v2)
        = (fun _ => (((∑ t, (devStep m c t).total) * 73728⁻¹ : ℝ) : EReal) : Vec Ideal S_ .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ hr c =>
    ⟨((hr c).2 main_v2 (Pipeline.mem_restRefs_of main_v2 (by decide) (by decide))).trans (tail_eq (h c)),
      ((hr c).1 1).trans (((dats m 0 c).arrAt_in 1 rfl _).trans ((A_eq m c 1).trans (V_main_arg0 m c))),
      ((hr c).2 main_arg1 (Pipeline.mem_restRefs_of main_arg1 (by decide) (by decide))).trans (W_main_arg1 m (dats m) c),
      ((hr c).1 3).trans (((dats m 0 c).arrAt_in 3 rfl _).trans ((A_eq m c 3).trans (V_main_arg2 m c))),
      ((hr c).1 4).trans (((dats m 0 c).arrAt_in 4 rfl _).trans ((A_eq m c 4).trans (V_main_arg3 m c)))⟩)
    (run_main m ρ)

end Cert.Mpm

end
-- ==== Proof.RefCells.lean ====
/- The reference's positions on the grid: base nodes, offsets, weights and their derivatives. -/
module

public import proofs.«01_k».proof.Proof.Lift
public import proofs.«01_k».proof.Proof.KernelVelocity
public import proofs.«01_k».proof.Proof.Inputs
public import proofs.«01_k».proof.Proof.Gen.ReferenceIdeal.Run

@[expose] public section

set_option maxRecDepth 16384

noncomputable section

namespace Cert.Mpm

open Idealize.ShloMosaic Cert.ReferenceIdeal Cert.ReferenceIdeal.Value

/-- The reference's arguments hold the numbers of the four steps. -/
structure RefIn (s : Fin 4 → Step) (V0 : Valuation τ sig (Elt Ideal)) : Prop where
  box : ∀ t, (s t).InBox
  hx : ∀ t n a, (V0 (Proc.devRef .tc main_arg0) : Vec Ideal S2x4x2048x3 .f32) (ix4 (batch t) (frame t 0) n a) = (((s t).x n a : ℝ) : EReal)
  hx2 : ∀ t n a, (V0 (Proc.devRef .tc main_arg0) : Vec Ideal S2x4x2048x3 .f32) (ix4 (batch t) (frame t 2) n a) = (((s t).x2 n a : ℝ) : EReal)
  hvol : ∀ t n, (V0 (Proc.devRef .tc main_arg1) : Vec Ideal S2x2048 .f32) (ix2 (batch t) n) = (((s t).vol n : ℝ) : EReal)
  hF : ∀ t n j, (V0 (Proc.devRef .tc main_arg2) : Vec Ideal S2x4x2048x9 .f32) (ix4 (batch t) (frame t 0) n j) = (((s t).F n j : ℝ) : EReal)
  hFn : ∀ t n j, (V0 (Proc.devRef .tc main_arg2) : Vec Ideal S2x4x2048x9 .f32) (ix4 (batch t) (frame t 1) n j) = (((s t).Fn n j : ℝ) : EReal)
  hC : ∀ t n j, (V0 (Proc.devRef .tc main_arg3) : Vec Ideal S2x4x2048x9 .f32) (ix4 (batch t) (frame t 0) n j) = (((s t).C n j : ℝ) : EReal)

variable {s : Fin 4 → Step} {V0 : Valuation τ sig (Elt Ideal)}

theorem grid_at (h : RefIn s V0) (t : Fin 4) (n : Fin 2048) (a : Fin 3) :
    (res_main_v24 V0 : Vec Ideal S4x2048x3 .f32) (ix3 t n a) = (((s t).g n a + 62 : ℝ) : EReal) := by
  have e : (V0 (Proc.devRef .tc main_arg0) : Vec Ideal S2x4x2048x3 .f32) (ix4 ⟨t.val / 2, by omega⟩ ⟨t.val % 2, by omega⟩ n a) = (((s t).x n a : ℝ) : EReal) := h.hx t n a
  pointwise [res_main_v24, res_main_v3]
  simp only [e, ofBits_two, ofBits_five, ofBits_invdx, ← EReal.coe_mul, ← EReal.coe_add]
  congr 1
  unfold Step.g
  ring

theorem base_at (h : RefIn s V0) (t : Fin 4) (n : Fin 2048) (a : Fin 3) :
    (res_main_v27 V0 : IVec S4x2048x3 32) (ix3 t n a) = BitVec.ofNat 32 (62 + (s t).b n a) := by
  have e := grid_at h t n a
  pointwise [res_main_v27]
  simp only [e, ofBits_half, ← EReal.coe_sub]
  refine fptosi_coe_nat _ _ ?_ ?_
  · have := (s t).b_le (h.box t) n a; omega
  · have hf := (s t).floor_eq (h.box t) n a
    have e1 : (s t).g n a + 62 - 1 / 2 = 25 * (s t).x n a + (62 : ℕ) := by unfold Step.g; push_cast; ring
    rw [e1, Int.floor_add_natCast, hf]
    push_cast; ring

theorem offset_at (h : RefIn s V0) (t : Fin 4) (n : Fin 2048) (a : Fin 3) :
    (res_main_v29 V0 : Vec Ideal S4x2048x3 .f32) (ix3 t n a) = (((s t).fx n a : ℝ) : EReal) := by
  have e := grid_at h t n a
  have e1 := base_at h t n a
  have hb := (s t).b_le (h.box t) n a
  pointwise [res_main_v29]
  simp only [e, e1]
  rw [sitofp_word _ (by omega), ← EReal.coe_sub]
  congr 1
  unfold Step.fx
  push_cast
  ring

theorem weights_at (h : RefIn s V0) (t : Fin 4) (n : Fin 2048) (a i : Fin 3) :
    (res_main_v48 V0 : Vec Ideal S4x2048x3x3 .f32) (ix4 t n a i) = ((wt ((s t).fx n a) i : ℝ) : EReal) := by
  have e := offset_at h t n a
  pointwise [res_main_v48, res_main_v31, res_main_v36, res_main_v41]
  simp only [e, ofBits_half, ofBits_threehalves, ofBits_threequarters, ← EReal.coe_mul, ← EReal.coe_sub, ← EReal.coe_one]
  fin_cases i <;> simp [wt, -EReal.coe_mul, -EReal.coe_sub] <;> ring

theorem derivs_at (h : RefIn s V0) (t : Fin 4) (n : Fin 2048) (a i : Fin 3) :
    (res_main_v60 V0 : Vec Ideal S4x2048x3x3 .f32) (ix4 t n a i) = ((dwt ((s t).fx n a) i : ℝ) : EReal) := by
  have e := offset_at h t n a
  pointwise [res_main_v60, res_main_v31, res_main_v36, res_main_v41]
  simp only [e, ofBits_half, ofBits_threehalves, ofBits_negtwo, ← EReal.coe_mul, ← EReal.coe_sub, ← EReal.coe_one]
  fin_cases i <;> simp [dwt, -EReal.coe_mul, -EReal.coe_sub] <;> trace_state

end Cert.Mpm

end
-- ==== Proof.RefNodes.lean ====
/- The reference's twenty-seven stencil corners, the nodes they land on, and the mass each carries. -/
module

public import proofs.«01_k».proof.Proof.RefCells

@[expose] public section

set_option maxRecDepth 16384

noncomputable section

namespace Cert.Mpm

open Idealize.ShloMosaic Cert.ReferenceIdeal Cert.ReferenceIdeal.Gen Cert.ReferenceIdeal.Value

/-- The corner numbered `q` of a three-by-three-by-three stencil, axis by axis. -/
def corner (q : Fin 27) : Fin 3 → Fin 3 := ![⟨q.val / 9, by omega⟩, ⟨q.val / 3 % 3, by omega⟩, ⟨q.val % 3, by omega⟩]

variable {s : Fin 4 → Step} {V0 : Valuation τ sig (Elt Ideal)}

theorem corner_at (q : Fin 27) (a : Fin 3) :
    (res_main_v69 V0 : IVec S27x3 32) (ix2 q a) = BitVec.ofNat 32 (corner q a).val := by
  pointwise [res_main_v69, res_main_call0_v0, res_main_call0_v2, res_main_call1_v0, res_main_call1_v2, res_main_call2_v0, res_main_call2_v2, res_main_call2_v4, res_main_call3_v0, res_main_call3_v2, res_main_call3_v4, res_main_v61]
  fin_cases q <;> fin_cases a <;> rfl

theorem node_at (h : RefIn s V0) (t : Fin 4) (n : Fin 2048) (q : Fin 27) (a : Fin 3) :
    (res_main_v74 V0 : IVec S4x2048x27x3 32) (ix4 t n q a) = BitVec.ofNat 32 (62 + (s t).b n a + (corner q a).val) := by
  have e := base_at h t n a
  have e1 := corner_at (V0 := V0) q a
  pointwise [res_main_v74]
  simp only [e, e1]
  exact (BitVec.ofNat_add _ _).symm

theorem mass_at (h : RefIn s V0) (t : Fin 4) (n : Fin 2048) (q : Fin 27) :
    (res_main_v119 V0 : Vec Ideal S4x2048x27 .f32) (ix3 t n q) = ((wt ((s t).fx n 0) (corner q 0) * wt ((s t).fx n 1) (corner q 1) * wt ((s t).fx n 2) (corner q 2) * (s t).mass n : ℝ) : EReal) := by
  have e0 := weights_at h t n 0 (corner q 0)
  have e1 := weights_at h t n 1 (corner q 1)
  have e2 := weights_at h t n 2 (corner q 2)
  have ev : (V0 (Proc.devRef .tc main_arg1) : Vec Ideal S2x2048 .f32) (ix2 ⟨t.val / 2, by omega⟩ n) = (((s t).vol n : ℝ) : EReal) := h.hvol t n
  pointwise [res_main_v119, res_main_v85, res_main_v88, res_main_v91]
  have c0 : (⟨q.val / 9, by omega⟩ : Fin 3) = corner q 0 := rfl
  have c1 : (⟨q.val / 3 % 3, by omega⟩ : Fin 3) = corner q 1 := rfl
  have c2 : (⟨q.val % 3, by omega⟩ : Fin 3) = corner q 2 := rfl
  simp only [c0, c1, c2, e0, e1, e2, ev, ofBits_density, ← EReal.coe_mul]
  rfl

/-- The nodes every corner lands on, one row of step, first, second and third axis each. -/
def places (V0 : Valuation τ sig (Elt Ideal)) : IVec S4x2048x27x4 32 :=
  fn_main_v180 (F := Ideal)
    (broadcastInDim S4x2048x27x1 ![0, 1, 2] bcast_S4x2048x27_S4x2048x27x1_0_1_2 (broadcastInDim S4x2048x27 ![0, 1, 2] bcast_S4x1x1_S4x2048x27_0_1_2 (select (cmpi .slt (res_main_v76 V0) (broadcastInDim S4x1x1 ![] bcast_S_S4x1x1 (constantI S_ 32 0#32))) (addi (res_main_v76 V0) (broadcastInDim S4x1x1 ![] bcast_S_S4x1x1 (constantI S_ 32 4#32))) (res_main_v76 V0))))
    (broadcastInDim S4x2048x27x1 ![0, 1, 2] bcast_S4x2048x27_S4x2048x27x1_0_1_2 (select (cmpi .slt (res_main_v78 V0) (broadcastInDim S4x2048x27 ![] bcast_S_S4x2048x27 (constantI S_ 32 0#32))) (addi (res_main_v78 V0) (broadcastInDim S4x2048x27 ![] bcast_S_S4x2048x27 (constantI S_ 32 125#32))) (res_main_v78 V0)))
    (broadcastInDim S4x2048x27x1 ![0, 1, 2] bcast_S4x2048x27_S4x2048x27x1_0_1_2 (select (cmpi .slt (res_main_v80 V0) (broadcastInDim S4x2048x27 ![] bcast_S_S4x2048x27 (constantI S_ 32 0#32))) (addi (res_main_v80 V0) (broadcastInDim S4x2048x27 ![] bcast_S_S4x2048x27 (constantI S_ 32 125#32))) (res_main_v80 V0)))
    (broadcastInDim S4x2048x27x1 ![0, 1, 2] bcast_S4x2048x27_S4x2048x27x1_0_1_2 (select (cmpi .slt (res_main_v82 V0) (broadcastInDim S4x2048x27 ![] bcast_S_S4x2048x27 (constantI S_ 32 0#32))) (addi (res_main_v82 V0) (broadcastInDim S4x2048x27 ![] bcast_S_S4x2048x27 (constantI S_ 32 125#32))) (res_main_v82 V0)))

theorem mass_scatter_eq (V0 : Valuation τ sig (Elt Ideal)) :
    (res_main_v181 V0 : Vec Ideal S4x125x125x125 .f32) = Host.scatterAdd scatter_S4x125x125x125_S4x2048x27x4_S4x2048x27_n_0123_0123_3 (broadcastInDim S4x125x125x125 ![] bcast_S_S4x125x125x125 (constant S_ .f32 0x00000000#32)) (places V0) (res_main_v119 V0) := rfl

/-- What a row of `places` holds: the step, then the node on each axis. -/
def place (s : Fin 4 → Step) (t : Fin 4) (n : Fin 2048) (q : Fin 27) : Fin 4 → ℕ :=
  ![t.val, 62 + (s t).b n 0 + (corner q 0).val, 62 + (s t).b n 1 + (corner q 1).val, 62 + (s t).b n 2 + (corner q 2).val]

theorem places_at (h : RefIn s V0) (t : Fin 4) (n : Fin 2048) (q : Fin 27) (a : Fin 4) :
    places V0 (ix4 t n q a) = BitVec.ofNat 32 (place s t n q a) := by
  have e0 := node_at h t n q 0
  have e1 := node_at h t n q 1
  have e2 := node_at h t n q 2
  have b0 := (s t).b_le (h.box t) n 0
  have b1 := (s t).b_le (h.box t) n 1
  have b2 := (s t).b_le (h.box t) n 2
  pointwise [places, fn_main_v180, res_main_v76, res_main_v78, res_main_v80, res_main_v82]
  simp only [e0, e1, e2]
  rw [cmpi_slt_zero (by omega), cmpi_slt_zero (by omega), cmpi_slt_zero (by omega), cmpi_slt_zero (by omega)]
  fin_cases a <;> rfl

theorem place_lt (h : RefIn s V0) (t : Fin 4) (n : Fin 2048) (q : Fin 27) (a : Fin 4) : place s t n q a < 125 := by
  have b0 := (s t).b_le (h.box t) n 0
  have b1 := (s t).b_le (h.box t) n 1
  have b2 := (s t).b_le (h.box t) n 2
  fin_cases a <;> simp [place] <;> omega

theorem places_toInt (h : RefIn s V0) (t : Fin 4) (n : Fin 2048) (q : Fin 27) (a : Fin 4) :
    (places V0 (ix4 t n q a)).toInt = (place s t n q a : ℤ) := by
  have hl := place_lt h t n q a
  rw [places_at h, BitVec.toInt_eq_toNat_of_lt (by rw [BitVec.toNat_ofNat]; omega), BitVec.toNat_ofNat, Nat.mod_eq_of_lt (by omega)]

end Cert.Mpm

end
-- ==== Proof.RefScatter.lean ====
/- The reference's two scatters read at a node: the mass and the momentum that reach it. -/
module

public import proofs.«01_k».proof.Proof.RefNodes
public import Idealize.ShloMosaic.Lib.Routing.OpsPair

@[expose] public section

set_option maxRecDepth 16384

noncomputable section

namespace Cert.Mpm

open Idealize.ShloMosaic Idealize.ShloMosaic.Routing Cert.ReferenceIdeal Cert.ReferenceIdeal.Gen Cert.ReferenceIdeal.Value

variable {s : Fin 4 → Step} {V0 : Valuation τ sig (Elt Ideal)}

/-- The twenty-seven corners are the triples of offsets. -/
def cornerEquiv : Fin 27 ≃ Fin 3 × Fin 3 × Fin 3 where
  toFun q := (corner q 0, corner q 1, corner q 2)
  invFun p := ⟨p.1.val * 9 + p.2.1.val * 3 + p.2.2.val, by omega⟩
  left_inv := by decide
  right_inv := by decide

theorem sum_corner_offsets (f : Fin 3 → Fin 3 → Fin 3 → ℝ) :
    ∑ q : Fin 27, f (corner q 0) (corner q 1) (corner q 2) = ∑ i : Fin 3, ∑ j : Fin 3, ∑ k : Fin 3, f i j k := by
  rw [Fintype.sum_equiv cornerEquiv (fun q => f (corner q 0) (corner q 1) (corner q 2)) (fun p => f p.1 p.2.1 p.2.2) fun _ => rfl]
  simp only [Fintype.sum_prod_type]

theorem scalar_start (idx : IVec S4x2048x27x4 32) (t : Fin 4) (n : Fin 2048) (q : Fin 27) (a : Fin 4) :
    scatter_S4x125x125x125_S4x2048x27x4_S4x2048x27_n_0123_0123_3.start (ix3 t n q) idx a = (idx (ix4 t n q a)).toInt := by
  have e : ∀ c : Fin 4, scatter_S4x125x125x125_S4x2048x27x4_S4x2048x27_n_0123_0123_3.siIdx (ix3 t n q) c = ix4 t n q c := by
    intro c
    funext b
    fin_cases b <;> rfl
  fin_cases a
  · exact congrArg (fun j => (idx j).toInt) (e 0)
  · exact congrArg (fun j => (idx j).toInt) (e 1)
  · exact congrArg (fun j => (idx j).toInt) (e 2)
  · exact congrArg (fun j => (idx j).toInt) (e 3)

theorem scalar_lands (h : RefIn s V0) (t' : Fin 4) (n : Fin 2048) (q : Fin 27) (t : Fin 4) (X Y Z : Fin 125) :
    scatter_S4x125x125x125_S4x2048x27x4_S4x2048x27_n_0123_0123_3.resultIdx? (ix3 t' n q) (places V0) = some (ix4 t X Y Z)
      ↔ ∀ a : Fin 4, place s t' n q a = ((ix4 t X Y Z : S4x125x125x125.Idx) a).val := by
  rw [resultIdx?_eq_some]
  refine forall_congr' fun a => ?_
  rw [scalar_start, places_toInt h]
  have e : scatter_S4x125x125x125_S4x2048x27x4_S4x2048x27_n_0123_0123_3.window (ix3 t' n q) a = 0 := by
    fin_cases a <;> rfl
  rw [e]
  omega

theorem vector_start (idx : IVec S4x2048x27x4 32) (t : Fin 4) (n : Fin 2048) (q : Fin 27) (r : Fin 3) (a : Fin 4) :
    scatter_S4x125x125x125x3_S4x2048x27x4_S4x2048x27x3_3_0123_0123_3.start (ix4 t n q r) idx a.castSucc = (idx (ix4 t n q a)).toInt := by
  have e : ∀ c : Fin 4, scatter_S4x125x125x125x3_S4x2048x27x4_S4x2048x27x3_3_0123_0123_3.siIdx (ix4 t n q r) c = ix4 t n q c := by
    intro c
    funext b
    fin_cases b <;> rfl
  fin_cases a
  · exact congrArg (fun j => (idx j).toInt) (e 0)
  · exact congrArg (fun j => (idx j).toInt) (e 1)
  · exact congrArg (fun j => (idx j).toInt) (e 2)
  · exact congrArg (fun j => (idx j).toInt) (e 3)

theorem vector_lands (h : RefIn s V0) (t' : Fin 4) (n : Fin 2048) (q : Fin 27) (r' : Fin 3) (t : Fin 4) (X Y Z : Fin 125) (r : Fin 3) :
    scatter_S4x125x125x125x3_S4x2048x27x4_S4x2048x27x3_3_0123_0123_3.resultIdx? (ix4 t' n q r') (places V0) = some (ix5 t X Y Z r)
      ↔ (∀ a : Fin 4, place s t' n q a = ((ix4 t X Y Z : S4x125x125x125.Idx) a).val) ∧ r' = r := by
  rw [resultIdx?_eq_some]
  have e : ∀ a : Fin 4, scatter_S4x125x125x125x3_S4x2048x27x4_S4x2048x27x3_3_0123_0123_3.window (ix4 t' n q r') a.castSucc = 0 := by
    intro a
    fin_cases a <;> rfl
  have e4 : scatter_S4x125x125x125x3_S4x2048x27x4_S4x2048x27x3_3_0123_0123_3.window (ix4 t' n q r') (Fin.last 4) = r'.val := rfl
  have s4 : scatter_S4x125x125x125x3_S4x2048x27x4_S4x2048x27x3_3_0123_0123_3.start (ix4 t' n q r') (places V0) (Fin.last 4) = 0 := rfl
  have v : ∀ a : Fin 4, ((ix5 t X Y Z r : S4x125x125x125x3.Idx) a.castSucc).val = ((ix4 t X Y Z : S4x125x125x125.Idx) a).val := by
    intro a
    fin_cases a <;> rfl
  have v4 : ((ix5 t X Y Z r : S4x125x125x125x3.Idx) (Fin.last 4)).val = r.val := rfl
  constructor
  · intro q'
    refine ⟨fun a => ?_, ?_⟩
    · have := q' a.castSucc
      rw [vector_start, places_toInt h, e, v] at this
      omega
    · have := q' (Fin.last 4)
      rw [s4, e4, v4] at this
      exact Fin.ext (by omega)
  · rintro ⟨q', hr⟩ a
    refine Fin.lastCases ?_ (fun a => ?_) a
    · rw [s4, e4, v4, hr]; omega
    · rw [vector_start, places_toInt h, e, v, q' a]; omega

/-- Landing at node `(X, Y, Z)` of the window, counted from its first node. -/
theorem place_iff (t' : Fin 4) (n : Fin 2048) (q : Fin 27) (t : Fin 4) (X Y Z : Fin 125) {X' Y' Z' : ℕ}
    (hX : X.val = 62 + X') (hY : Y.val = 62 + Y') (hZ : Z.val = 62 + Z') :
    (∀ a : Fin 4, place s t' n q a = ((ix4 t X Y Z : S4x125x125x125.Idx) a).val)
      ↔ t' = t ∧ ((s t').b n 0 + (corner q 0).val = X' ∧ (s t').b n 1 + (corner q 1).val = Y' ∧ (s t').b n 2 + (corner q 2).val = Z') := by
  constructor
  · intro e
    have e0 : t'.val = t.val := e 0
    have e1 : 62 + (s t').b n 0 + (corner q 0).val = X.val := e 1
    have e2 : 62 + (s t').b n 1 + (corner q 1).val = Y.val := e 2
    have e3 : 62 + (s t').b n 2 + (corner q 2).val = Z.val := e 3
    exact ⟨Fin.ext e0, by omega, by omega, by omega⟩
  · rintro ⟨e0, e1, e2, e3⟩ a
    fin_cases a
    · exact congrArg Fin.val e0
    · show 62 + (s t').b n 0 + (corner q 0).val = X.val
      omega
    · show 62 + (s t').b n 1 + (corner q 1).val = Y.val
      omega
    · show 62 + (s t').b n 2 + (corner q 2).val = Z.val
      omega

/-- What one particle leaves at a node, summed over its corners. -/
theorem landed_sum (w : Step) (n : Fin 2048) (X Y Z : ℕ) (p : ℝ) :
    ∑ q : Fin 27, (if w.b n 0 + (corner q 0).val = X ∧ w.b n 1 + (corner q 1).val = Y ∧ w.b n 2 + (corner q 2).val = Z
      then wt (w.fx n 0) (corner q 0) * wt (w.fx n 1) (corner q 1) * wt (w.fx n 2) (corner q 2) * p else 0)
      = w.W n 0 X * w.W n 1 Y * w.W n 2 Z * p := by
  rw [sum_corner_offsets fun i j k => if w.b n 0 + i.val = X ∧ w.b n 1 + j.val = Y ∧ w.b n 2 + k.val = Z
      then wt (w.fx n 0) i * wt (w.fx n 1) j * wt (w.fx n 2) k * p else 0]
  exact sum_corners _ _ _ _ _ _ _ _ _ _

/-- An adding scatter at one place: the operand there and every update that lands on it. -/
theorem scatter_at_place {σ' σi σu : Shape} (d : ScatterDims σ' σi σu) (x : FVec Ideal σ' .f32) (idx : IVec σi 32) (upd : FVec Ideal σu .f32) (i : σ'.Idx) :
    Host.scatterAdd d x idx upd i = (x i + ∑ j, if d.resultIdx? j idx = some i then upd j else 0 : EReal) := by
  refine Eq.trans (b := (x i + ∑ j ∈ Finset.univ.filter (fun j => d.resultIdx? j idx = some i), upd j : EReal)) rfl ?_
  rw [Finset.sum_filter]

/-- Only the updates of the node's own step land on it. -/
theorem only_step (t : Fin 4) (P : Fin 4 → Fin 2048 → Fin 27 → Prop) [∀ a n q, Decidable (P a n q)] (f : Fin 4 → Fin 2048 → Fin 27 → ℝ) :
    (∑ a, ∑ n, ∑ q, if a = t ∧ P a n q then f a n q else 0) = ∑ n, ∑ q, if P t n q then f t n q else 0 := by
  rw [Finset.sum_eq_single t]
  · simp
  · intro a _ ha
    simp [ha]
  · simp

theorem mass_scatter_at (h : RefIn s V0) (t : Fin 4) (X Y Z : Fin 125) {X' Y' Z' : ℕ}
    (hX : X.val = 62 + X') (hY : Y.val = 62 + Y') (hZ : Z.val = 62 + Z') :
    (res_main_v181 V0 : Vec Ideal S4x125x125x125 .f32) (ix4 t X Y Z) = (((s t).GM X' Y' Z' : ℝ) : EReal) := by
  rw [mass_scatter_eq, scatter_at_place, sum_idx3]
  simp only [scalar_lands h, place_iff _ _ _ _ _ _ _ hX hY hZ, mass_at h]
  pointwise []
  simp only [ofBits_zero, ← EReal.coe_zero, coe_ite, coe_sum, ← EReal.coe_add]
  congr 1
  rw [only_step]
  exact Finset.sum_congr rfl fun n _ => landed_sum (s t) n X' Y' Z' _

/-- The momentum every corner brings, and the velocity of every node. -/
def momenta {F : FTy → Type} [FloatOps F] (V0 : Valuation τ sig (Elt F)) : Vec F S4x2048x27x3 .f32 :=
  mulf (broadcastInDim S4x2048x27x3 ![0, 1, 2, 3] bcast_S4x2048x27x1_S4x2048x27x3_0_1_2_3 (broadcastInDim S4x2048x27x1 ![0, 1, 2] bcast_S4x2048x27_S4x2048x27x1_0_1_2 (res_main_v119 V0))) (addf (broadcastInDim S4x2048x27x3 ![0, 1, 2, 3] bcast_S4x2048x1x3_S4x2048x27x3_0_1_2_3 (broadcastInDim S4x2048x1x3 ![0, 1, 3] bcast_S4x2048x3_S4x2048x1x3_0_1_3 (shapeCast _ (Host.divf (subf (extractStridedSlice S2x2x2048x3 ![0, 2, 0, 0] (res_main_v3 V0) slices_S2x4x2048x3_S2x2x2048x3_0_2_0_0) (extractStridedSlice S2x2x2048x3 ![0, 0, 0, 0] (res_main_v3 V0) slices_S2x4x2048x3_S2x2x2048x3_0_0_0_0)) (broadcastInDim S2x2x2048x3 ![] bcast_S_S2x2x2048x3 (constant S_ .f32 0x3E2ACD9F#32))) shapeCasts_S2x2x2048x3_S4x2048x3))) (Host.dotGeneral dot_S4x2048x27x3_S4x2048x3x3_S4x2048x27x3_3_3_2_2_01_01 none (mulf (subf (broadcastInDim S4x2048x27x3 ![0, 1, 2, 3] bcast_S1x1x27x3_S4x2048x27x3_0_1_2_3 (broadcastInDim S1x1x27x3 ![2, 3] bcast_S27x3_S1x1x27x3_2_3 (sitofp .f32 (res_main_v69 V0)))) (broadcastInDim S4x2048x27x3 ![0, 1, 2, 3] bcast_S4x2048x1x3_S4x2048x27x3_0_1_2_3 (broadcastInDim S4x2048x1x3 ![0, 1, 3] bcast_S4x2048x3_S4x2048x1x3_0_1_3 (res_main_v29 V0)))) (broadcastInDim S4x2048x27x3 ![] bcast_S_S4x2048x27x3 (constant S_ .f32 0x3DA3D70A#32))) (shapeCast _ (extractStridedSlice S2x2x2048x9 ![0, 0, 0, 0] (V0 (Proc.devRef .tc main_arg3)) slices_S2x4x2048x9_S2x2x2048x9_0_0_0_0) shapeCasts_S2x2x2048x9_S4x2048x3x3)))

def velocities (V0 : Valuation τ sig (Elt Ideal)) : Vec Ideal S4x125x125x125x3 .f32 :=
  Host.divf (Host.scatterAdd scatter_S4x125x125x125x3_S4x2048x27x4_S4x2048x27x3_3_0123_0123_3 (broadcastInDim S4x125x125x125x3 ![] bcast_S_S4x125x125x125x3 (constant S_ .f32 0x00000000#32)) (places V0) (momenta V0)) (broadcastInDim S4x125x125x125x3 ![0, 1, 2, 3, 4] bcast_S4x125x125x125x1_S4x125x125x125x3_0_1_2_3_4 (broadcastInDim S4x125x125x125x1 ![0, 1, 2, 3] bcast_S4x125x125x125_S4x125x125x125x1_0_1_2_3 (select (cmpf .ogt (res_main_v181 V0) (broadcastInDim S4x125x125x125 ![] bcast_S_S4x125x125x125 (constant S_ .f32 0x26901D7D#32))) (res_main_v181 V0) (broadcastInDim S4x125x125x125 ![] bcast_S_S4x125x125x125 (constant S_ .f32 0x3F800000#32)))))

theorem gather_eq (V0 : Valuation τ sig (Elt Ideal)) :
    (res_main_v242 V0 : Vec Ideal S4x2048x27x3 .f32) = Host.gather gather_S4x125x125x125x3_S4x2048x27x4_S4x2048x27x3_3_0123_n_n_0123_3_11113 (velocities V0) (places V0) := rfl

/-- The momentum per mass a corner brings. -/
def cornerPush (w : Step) (n : Fin 2048) (q : Fin 27) (r : Fin 3) : ℝ :=
  w.vel n r + (((corner q 0).val - w.fx n 0) * DX * w.C n (rc r 0) + ((corner q 1).val - w.fx n 1) * DX * w.C n (rc r 1) + ((corner q 2).val - w.fx n 2) * DX * w.C n (rc r 2))

theorem momenta_at (h : RefIn s V0) (t : Fin 4) (n : Fin 2048) (q : Fin 27) (r : Fin 3) :
    momenta V0 (ix4 t n q r) = ((wt ((s t).fx n 0) (corner q 0) * wt ((s t).fx n 1) (corner q 1) * wt ((s t).fx n 2) (corner q 2) * ((s t).mass n * cornerPush (s t) n q r) : ℝ) : EReal) := by
  have em := mass_at h t n q
  have ec : ∀ a, (res_main_v69 V0 : IVec S27x3 32) (ix2 q a) = _ := fun a => corner_at q a
  have eo := fun a => offset_at h t n a
  have ex : (V0 (Proc.devRef .tc main_arg0) : Vec Ideal S2x4x2048x3 .f32) (ix4 ⟨t.val / 2, by omega⟩ ⟨t.val % 2, by omega⟩ n r) = (((s t).x n r : ℝ) : EReal) := h.hx t n r
  have ex2 : (V0 (Proc.devRef .tc main_arg0) : Vec Ideal S2x4x2048x3 .f32) (ix4 ⟨t.val / 2, by omega⟩ ⟨2 + t.val % 2, by omega⟩ n r) = (((s t).x2 n r : ℝ) : EReal) := by
    rw [← h.hx2 t n r]
    exact congrArg (fun m : Fin 4 => (V0 (Proc.devRef .tc main_arg0) : Vec Ideal S2x4x2048x3 .f32) (ix4 _ m n r)) (Fin.ext (Nat.add_comm 2 _))
  have eC : ∀ j, (V0 (Proc.devRef .tc main_arg3) : Vec Ideal S2x4x2048x9 .f32) (ix4 ⟨t.val / 2, by omega⟩ ⟨t.val % 2, by omega⟩ n j) = (((s t).C n j : ℝ) : EReal) := fun j => h.hC t n j
  have ew : ∀ x : Fin 3, FloatOps.sitofp (F := Ideal) .f32 (BitVec.ofNat 32 (corner q x).val) = (((corner q x).val : ℝ) : EReal) := fun x => sitofp_word _ (by omega) _
  have er : ∀ x : Fin 3, (⟨r.val * 3 + x.val, by omega⟩ : Fin 9) = rc r x := fun x => Fin.ext (by unfold rc; dsimp only; omega)
  pointwise [momenta, res_main_v3]
  simp only [em, ec, eo, ex, ex2, eC, ew, er, ofBits_two, ofBits_five, ofBits_TWODT, ofBits_DX, ← EReal.coe_mul, ← EReal.coe_add, ← EReal.coe_sub, coe_sum, coe_div _ TWODT_ne]
  congr 1
  rw [Fin.sum_univ_three]
  unfold cornerPush Step.vel
  ring

theorem cornerPush_eq (w : Step) (n : Fin 2048) (q : Fin 27) (r : Fin 3) {X Y Z : ℕ}
    (h : w.b n 0 + (corner q 0).val = X ∧ w.b n 1 + (corner q 1).val = Y ∧ w.b n 2 + (corner q 2).val = Z) :
    cornerPush w n q r = w.push n r X Y Z := by
  obtain ⟨rfl, rfl, rfl⟩ := h
  unfold cornerPush Step.push Step.fx
  push_cast
  ring

theorem momentum_scatter_at (h : RefIn s V0) (t : Fin 4) (X Y Z : Fin 125) (r : Fin 3) {X' Y' Z' : ℕ}
    (hX : X.val = 62 + X') (hY : Y.val = 62 + Y') (hZ : Z.val = 62 + Z') :
    Host.scatterAdd scatter_S4x125x125x125x3_S4x2048x27x4_S4x2048x27x3_3_0123_0123_3 (broadcastInDim S4x125x125x125x3 ![] bcast_S_S4x125x125x125x3 (constant (F := Ideal) S_ .f32 0x00000000#32)) (places V0) (momenta V0) (ix5 t X Y Z r)
      = (((s t).GV r X' Y' Z' : ℝ) : EReal) := by
  rw [scatter_at_place, sum_idx4]
  simp only [vector_lands h, place_iff _ _ _ _ _ _ _ hX hY hZ, momenta_at h]
  pointwise []
  simp only [ofBits_zero, ← EReal.coe_zero, coe_ite, coe_sum, ← EReal.coe_add]
  congr 1
  have e : ∀ (P : Prop) [Decidable P] (f : Fin 3 → ℝ), (∑ r', if P ∧ r' = r then f r' else 0) = if P then f r else 0 := by
    intro P _ f
    by_cases hP : P <;> simp [hP]
  simp only [e]
  rw [only_step]
  refine Finset.sum_congr rfl fun n _ => ?_
  rw [mul_assoc, ← landed_sum]
  refine Finset.sum_congr rfl fun q _ => ?_
  split_ifs with hl
  · rw [cornerPush_eq _ _ _ _ hl]
  · rfl

theorem velocities_at (h : RefIn s V0) (t : Fin 4) (X Y Z : Fin 125) (r : Fin 3) {X' Y' Z' : ℕ}
    (hX : X.val = 62 + X') (hY : Y.val = 62 + Y') (hZ : Z.val = 62 + Z') :
    velocities V0 (ix5 t X Y Z r) = (((s t).gv r X' Y' Z' : ℝ) : EReal) := by
  have em := mass_scatter_at h t X Y Z hX hY hZ
  have ep := momentum_scatter_at h t X Y Z r hX hY hZ
  unfold velocities
  generalize Host.scatterAdd scatter_S4x125x125x125x3_S4x2048x27x4_S4x2048x27x3_3_0123_0123_3 _ (places V0) (momenta V0) = p at ep ⊢
  pointwise []
  simp only [em, ep, ofBits_EPS, ← EReal.coe_one, EReal.coe_lt_coe_iff, coe_ite]
  exact coe_div _ ((s t).safe_ne X' Y' Z')

end Cert.Mpm

end
-- ==== Proof.RefGather.lean ====
/- The reference's gather: what each corner reads back from the grid. -/
module

public import proofs.«01_k».proof.Proof.RefScatter

@[expose] public section

set_option maxRecDepth 16384

noncomputable section

namespace Cert.Mpm

open Idealize.ShloMosaic Cert.ReferenceIdeal Cert.ReferenceIdeal.Gen Cert.ReferenceIdeal.Value

variable {s : Fin 4 → Step} {V0 : Valuation τ sig (Elt Ideal)}

theorem gather_start (idx : IVec S4x2048x27x4 32) (t : Fin 4) (n : Fin 2048) (q : Fin 27) (r : Fin 3) (a : Fin 4) :
    gather_S4x125x125x125x3_S4x2048x27x4_S4x2048x27x3_3_0123_n_n_0123_3_11113.start (ix4 t n q r) idx a.castSucc
      = min (idx (ix4 t n q a)).toInt.toNat (if a = 0 then 3 else 124) := by
  have e : ∀ c : Fin 4, gather_S4x125x125x125x3_S4x2048x27x4_S4x2048x27x3_3_0123_n_n_0123_3_11113.siIdx (ix4 t n q r) c = ix4 t n q c := by
    intro c
    funext b
    fin_cases b <;> rfl
  fin_cases a
  · exact congrArg (fun j => min (idx j).toInt.toNat 3) (e 0)
  · exact congrArg (fun j => min (idx j).toInt.toNat 124) (e 1)
  · exact congrArg (fun j => min (idx j).toInt.toNat 124) (e 2)
  · exact congrArg (fun j => min (idx j).toInt.toNat 124) (e 3)

theorem gather_operand (idx : IVec S4x2048x27x4 32) (t : Fin 4) (n : Fin 2048) (q : Fin 27) (r : Fin 3) (X Y Z : Fin 125)
    (h : ∀ a : Fin 4, (idx (ix4 t n q a)).toInt = ((ix4 t X Y Z : S4x125x125x125.Idx) a).val) :
    gather_S4x125x125x125x3_S4x2048x27x4_S4x2048x27x3_3_0123_n_n_0123_3_11113.operandIdx (ix4 t n q r) idx = ix5 t X Y Z r := by
  have hs : ∀ a : Fin 4, gather_S4x125x125x125x3_S4x2048x27x4_S4x2048x27x3_3_0123_n_n_0123_3_11113.start (ix4 t n q r) idx a.castSucc = ((ix4 t X Y Z : S4x125x125x125.Idx) a).val := by
    intro a
    rw [gather_start, h, Int.toNat_natCast]
    refine Nat.min_eq_left ?_
    fin_cases a
    · show t.val ≤ 3
      omega
    · show X.val ≤ 124
      omega
    · show Y.val ≤ 124
      omega
    · show Z.val ≤ 124
      omega
  have hb : ∀ a, gather_S4x125x125x125x3_S4x2048x27x4_S4x2048x27x3_3_0123_n_n_0123_3_11113.batchCoord (ix4 t n q r) a = 0 := fun a => rfl
  have ho : ∀ a : Fin 4, gather_S4x125x125x125x3_S4x2048x27x4_S4x2048x27x3_3_0123_n_n_0123_3_11113.offCoord (ix4 t n q r) a.castSucc = 0 := by
    intro a
    fin_cases a <;> rfl
  have s4 : gather_S4x125x125x125x3_S4x2048x27x4_S4x2048x27x3_3_0123_n_n_0123_3_11113.start (ix4 t n q r) idx (Fin.last 4) = 0 := rfl
  have o4 : gather_S4x125x125x125x3_S4x2048x27x4_S4x2048x27x3_3_0123_n_n_0123_3_11113.offCoord (ix4 t n q r) (Fin.last 4) = r.val := rfl
  funext a
  refine Fin.ext ?_
  change gather_S4x125x125x125x3_S4x2048x27x4_S4x2048x27x3_3_0123_n_n_0123_3_11113.start (ix4 t n q r) idx a + gather_S4x125x125x125x3_S4x2048x27x4_S4x2048x27x3_3_0123_n_n_0123_3_11113.batchCoord (ix4 t n q r) a + gather_S4x125x125x125x3_S4x2048x27x4_S4x2048x27x3_3_0123_n_n_0123_3_11113.offCoord (ix4 t n q r) a = _
  refine Fin.lastCases ?_ (fun a => ?_) a
  · rw [s4, hb, o4]
    exact Nat.zero_add _
  · rw [hs, hb, ho]
    fin_cases a <;> rfl

theorem gathered_at (h : RefIn s V0) (t : Fin 4) (n : Fin 2048) (q : Fin 27) (r : Fin 3) :
    (res_main_v242 V0 : Vec Ideal S4x2048x27x3 .f32) (ix4 t n q r)
      = (((s t).gv r ((s t).b n 0 + (corner q 0).val) ((s t).b n 1 + (corner q 1).val) ((s t).b n 2 + (corner q 2).val) : ℝ) : EReal) := by
  have hl := place_lt h t n q
  rw [gather_eq, ← velocities_at h t ⟨place s t n q 1, hl 1⟩ ⟨place s t n q 2, hl 2⟩ ⟨place s t n q 3, hl 3⟩ r (Nat.add_assoc _ _ _) (Nat.add_assoc _ _ _) (Nat.add_assoc _ _ _)]
  refine congrArg (velocities V0) (gather_operand _ t n q r _ _ _ fun a => ?_)
  rw [places_toInt h]
  fin_cases a <;> rfl

end Cert.Mpm

end
-- ==== Proof.RefTotal.lean ====
/- The reference's loss: velocity gradients, predicted deformation gradients, and their mean error. -/
module

public import proofs.«01_k».proof.Proof.RefGather

@[expose] public section

set_option maxRecDepth 16384

noncomputable section

namespace Cert.Mpm

open Idealize.ShloMosaic Cert.ReferenceIdeal Cert.ReferenceIdeal.Gen Cert.ReferenceIdeal.Value

variable {s : Fin 4 → Step} {V0 : Valuation τ sig (Elt Ideal)}

/-- Every corner's derivative weights, one per axis. -/
def corrWeights {F : FTy → Type} [FloatOps F] (V0 : Valuation τ sig (Elt F)) : Vec F S4x2048x27x3 .f32 :=
  (concatenate S4x2048x27x3 3 [⟨S4x2048x27x1, ((broadcastInDim S4x2048x27x1 ![0, 1, 2] bcast_S4x2048x27_S4x2048x27x1_0_1_2 (shapeCast _ (mulf (broadcastInDim S4x2048x3x3x3 ![0, 1, 2, 3, 4] bcast_S4x2048x3x3x1_S4x2048x3x3x3_0_1_2_3_4 (mulf (broadcastInDim S4x2048x3x3x1 ![0, 1, 2, 3, 4] bcast_S4x2048x3x1x1_S4x2048x3x3x1_0_1_2_3_4 (broadcastInDim S4x2048x3x1x1 ![0, 1, 2] bcast_S4x2048x3_S4x2048x3x1x1_0_1_2 (shapeCast _ (extractStridedSlice S4x2048x1x3 ![0, 0, 0, 0] (res_main_v60 V0) slices_S4x2048x3x3_S4x2048x1x3_0_0_0_0) shapeCasts_S4x2048x1x3_S4x2048x3))) (broadcastInDim S4x2048x3x3x1 ![0, 1, 2, 3, 4] bcast_S4x2048x1x3x1_S4x2048x3x3x1_0_1_2_3_4 (res_main_v88 V0)))) (broadcastInDim S4x2048x3x3x3 ![0, 1, 2, 3, 4] bcast_S4x2048x1x1x3_S4x2048x3x3x3_0_1_2_3_4 (res_main_v91 V0))) shapeCasts_S4x2048x3x3x3_S4x2048x27)) : (⟨S4x2048x27x1, .f32⟩ : BufTy).Contents (Elt F))⟩, ⟨S4x2048x27x1, ((broadcastInDim S4x2048x27x1 ![0, 1, 2] bcast_S4x2048x27_S4x2048x27x1_0_1_2 (shapeCast _ (mulf (broadcastInDim S4x2048x3x3x3 ![0, 1, 2, 3, 4] bcast_S4x2048x3x3x1_S4x2048x3x3x3_0_1_2_3_4 (mulf (broadcastInDim S4x2048x3x3x1 ![0, 1, 2, 3, 4] bcast_S4x2048x3x1x1_S4x2048x3x3x1_0_1_2_3_4 (res_main_v85 V0)) (broadcastInDim S4x2048x3x3x1 ![0, 1, 2, 3, 4] bcast_S4x2048x1x3x1_S4x2048x3x3x1_0_1_2_3_4 (broadcastInDim S4x2048x1x3x1 ![0, 1, 3] bcast_S4x2048x3_S4x2048x1x3x1_0_1_3 (shapeCast _ (extractStridedSlice S4x2048x1x3 ![0, 0, 1, 0] (res_main_v60 V0) slices_S4x2048x3x3_S4x2048x1x3_0_0_1_0) shapeCasts_S4x2048x1x3_S4x2048x3))))) (broadcastInDim S4x2048x3x3x3 ![0, 1, 2, 3, 4] bcast_S4x2048x1x1x3_S4x2048x3x3x3_0_1_2_3_4 (res_main_v91 V0))) shapeCasts_S4x2048x3x3x3_S4x2048x27)) : (⟨S4x2048x27x1, .f32⟩ : BufTy).Contents (Elt F))⟩, ⟨S4x2048x27x1, ((broadcastInDim S4x2048x27x1 ![0, 1, 2] bcast_S4x2048x27_S4x2048x27x1_0_1_2 (shapeCast _ (mulf (broadcastInDim S4x2048x3x3x3 ![0, 1, 2, 3, 4] bcast_S4x2048x3x3x1_S4x2048x3x3x3_0_1_2_3_4 (mulf (broadcastInDim S4x2048x3x3x1 ![0, 1, 2, 3, 4] bcast_S4x2048x3x1x1_S4x2048x3x3x1_0_1_2_3_4 (res_main_v85 V0)) (broadcastInDim S4x2048x3x3x1 ![0, 1, 2, 3, 4] bcast_S4x2048x1x3x1_S4x2048x3x3x1_0_1_2_3_4 (res_main_v88 V0)))) (broadcastInDim S4x2048x3x3x3 ![0, 1, 2, 3, 4] bcast_S4x2048x1x1x3_S4x2048x3x3x3_0_1_2_3_4 (broadcastInDim S4x2048x1x1x3 ![0, 1, 4] bcast_S4x2048x3_S4x2048x1x1x3_0_1_4 (shapeCast _ (extractStridedSlice S4x2048x1x3 ![0, 0, 2, 0] (res_main_v60 V0) slices_S4x2048x3x3_S4x2048x1x3_0_0_2_0) shapeCasts_S4x2048x1x3_S4x2048x3)))) shapeCasts_S4x2048x3x3x3_S4x2048x27)) : (⟨S4x2048x27x1, .f32⟩ : BufTy).Contents (Elt F))⟩] concatenates_S4x2048x27x1_S4x2048x27x1_S4x2048x27x1_S4x2048x27x3_d3 : (⟨S4x2048x27x3, .f32⟩ : BufTy).Contents (Elt F))

theorem corrWeights_at (h : RefIn s V0) (t : Fin 4) (n : Fin 2048) (q : Fin 27) (e : Fin 3) :
    corrWeights V0 (ix4 t n q e) = (((s t).dweight n e (corner q 0) (corner q 1) (corner q 2) : ℝ) : EReal) := by
  have w0 := weights_at h t n 0 (corner q 0)
  have w1 := weights_at h t n 1 (corner q 1)
  have w2 := weights_at h t n 2 (corner q 2)
  have d0 := derivs_at h t n 0 (corner q 0)
  have d1 := derivs_at h t n 1 (corner q 1)
  have d2 := derivs_at h t n 2 (corner q 2)
  have c0 : (⟨q.val / 9, by omega⟩ : Fin 3) = corner q 0 := rfl
  have c1 : (⟨q.val / 3 % 3, by omega⟩ : Fin 3) = corner q 1 := rfl
  have c2 : (⟨q.val % 3, by omega⟩ : Fin 3) = corner q 2 := rfl
  pointwise [corrWeights, res_main_v85, res_main_v88, res_main_v91]
  simp only [c0, c1, c2, w0, w1, w2, d0, d1, d2, ← EReal.coe_mul]
  fin_cases e <;> simp [Step.dweight, -EReal.coe_mul]

/-- The error of every entry. -/
def misfits {F : FTy → Type} [FloatOps F] (V0 : Valuation τ sig (Elt F)) : Vec F S4x2048x3x3 .f32 :=
  Host.absf (subf (Host.dotGeneral dot_S4x2048x3x3_S4x2048x3x3_S4x2048x3x3_3_2_2_3_01_01 none (addf (broadcastInDim S4x2048x3x3 ![0, 1, 2, 3] bcast_S1x1x3x3_S4x2048x3x3_0_1_2_3 (broadcastInDim S1x1x3x3 ![2, 3] bcast_S3x3_S1x1x3x3_2_3 (uitofp .f32 (cmpi .eq (addi (iotaInDim S3x3 32 0) (broadcastInDim S3x3 ![] bcast_S_S3x3 (constantI S_ 32 0#32))) (iotaInDim S3x3 32 1))))) (mulf (Host.dotGeneral dot_S4x2048x27x3_S4x2048x27x3_S4x2048x3x3_2_2_3_3_01_01 none (res_main_v242 V0) (mulf ((corrWeights V0)) (broadcastInDim S4x2048x27x3 ![] bcast_S_S4x2048x27x3 (constant S_ .f32 0x41480000#32)))) (broadcastInDim S4x2048x3x3 ![] bcast_S_S4x2048x3x3 (constant S_ .f32 0x3DAACD9F#32)))) (shapeCast _ (extractStridedSlice S2x2x2048x9 ![0, 0, 0, 0] (V0 (Proc.devRef .tc main_arg2)) slices_S2x4x2048x9_S2x2x2048x9_0_0_0_0) shapeCasts_S2x2x2048x9_S4x2048x3x3)) (shapeCast _ (extractStridedSlice S2x2x2048x9 ![0, 1, 0, 0] (V0 (Proc.devRef .tc main_arg2)) slices_S2x4x2048x9_S2x2x2048x9_0_1_0_0) shapeCasts_S2x2x2048x9_S4x2048x3x3))

theorem eye_at (r x : Fin 3) :
    FloatOps.uitofp (F := Ideal) .f32 (IntOp.cmpi .eq (IntOp.addi (BitVec.ofNat 32 r.val) 0#32) (BitVec.ofNat 32 x.val)) = ((if r = x then 1 else 0 : ℝ) : EReal) := by
  have e : IntOp.cmpi .eq (IntOp.addi (BitVec.ofNat 32 r.val) 0#32) (BitVec.ofNat 32 x.val) = if r = x then 1#1 else 0#1 := by
    fin_cases r <;> fin_cases x <;> rfl
  rw [e]
  show (((if r = x then 1#1 else 0#1 : BitVec 1).toNat : ℝ) : EReal) = _
  split_ifs <;> simp

theorem misfits_at (h : RefIn s V0) (t : Fin 4) (n : Fin 2048) (r c : Fin 3) :
    misfits V0 (ix4 t n r c) = (((s t).loss n r c : ℝ) : EReal) := by
  have eg := gathered_at h t n
  have ew := corrWeights_at h t n
  have eF : ∀ j, (V0 (Proc.devRef .tc main_arg2) : Vec Ideal S2x4x2048x9 .f32) (ix4 ⟨t.val / 2, by omega⟩ ⟨t.val % 2, by omega⟩ n j) = (((s t).F n j : ℝ) : EReal) := fun j => h.hF t n j
  have eFn : ∀ j, (V0 (Proc.devRef .tc main_arg2) : Vec Ideal S2x4x2048x9 .f32) (ix4 ⟨t.val / 2, by omega⟩ ⟨1 + t.val % 2, by omega⟩ n j) = (((s t).Fn n j : ℝ) : EReal) := by
    intro j
    rw [← h.hFn t n j]
    exact congrArg (fun m : Fin 4 => (V0 (Proc.devRef .tc main_arg2) : Vec Ideal S2x4x2048x9 .f32) (ix4 _ m n j)) (Fin.ext (Nat.add_comm 1 _))
  have er : ∀ r x : Fin 3, (⟨r.val * 3 + x.val, by omega⟩ : Fin 9) = rc r x := fun r x => Fin.ext (by unfold rc; dsimp only; omega)
  pointwise [misfits]
  have en : ∀ x : Fin 3, (∑ q : Fin 27, (s t).gv r ((s t).b n 0 + (corner q 0).val) ((s t).b n 1 + (corner q 1).val) ((s t).b n 2 + (corner q 2).val)
      * ((s t).dweight n x (corner q 0) (corner q 1) (corner q 2) * (25 / 2))) = (s t).NF n r x := fun x =>
    sum_corner_offsets fun i j k => (s t).gv r ((s t).b n 0 + i.val) ((s t).b n 1 + j.val) ((s t).b n 2 + k.val) * ((s t).dweight n x i j k * (25 / 2))
  simp only [eg, ew, eF, eFn, er, eye_at, ofBits_invdx, ofBits_DT, ← EReal.coe_mul, coe_sum, en, ← EReal.coe_add, ← EReal.coe_sub]
  exact coe_abs _

/-- The mean error. -/
def meanError {F : FTy → Type} [FloatOps F] (V0 : Valuation τ sig (Elt F)) : Vec F S_ .f32 :=
  Host.divf (Host.reduceAdd (misfits V0) (constant S_ .f32 0x00000000#32) reducesTo_S4x2048x3x3_S_d0_1_2_3 h_S_) (constant S_ .f32 0x47900000#32)

theorem meanError_eq (h : RefIn s V0) : (meanError V0 : Vec Ideal S_ .f32) = fun _ => (((∑ t, (s t).total) * 73728⁻¹ : ℝ) : EReal) := by
  have ee := misfits_at h
  funext j
  rw [ValueIdx.eq_ix0 j]
  unfold meanError
  generalize (misfits V0 : Vec Ideal S4x2048x3x3 .f32) = v at ee ⊢
  pointwise []
  rw [Ideal.hostReduceAdd_total _ (fun b => b.elim0), sum_idx4, zero_add]
  simp only [ee, coe_sum, ofBits_count]
  rw [coe_div _ (by norm_num), div_eq_mul_inv]
  rfl

end Cert.Mpm

end
-- ==== Proof.RefRun.lean ====
/- The reference's run: every device ends with the mean error of its four steps. -/
module

public import proofs.«01_k».proof.Proof.RefTotal

@[expose] public section

set_option maxRecDepth 16384

noncomputable section

namespace Cert.Mpm

open Idealize.ShloMosaic Idealize.SL.Sem Cert.ReferenceIdeal Cert.ReferenceIdeal.Gen Cert.ReferenceIdeal.Value

variable (m : (ℓ : Loc nD τ sig) → Buf (Elt Ideal) ℓ)

/-- Device `c`'s arguments. -/
abbrev refX (c : Dev nD) : Vec Ideal S2x4x2048x3 .f32 := m ((c.tc : Thread nD τ).loc main_arg0)
abbrev refVol (c : Dev nD) : Vec Ideal S2x2048 .f32 := m ((c.tc : Thread nD τ).loc main_arg1)
abbrev refF (c : Dev nD) : Vec Ideal S2x4x2048x9 .f32 := m ((c.tc : Thread nD τ).loc main_arg2)
abbrev refC (c : Dev nD) : Vec Ideal S2x4x2048x9 .f32 := m ((c.tc : Thread nD τ).loc main_arg3)

/-- Device `c`'s four steps. -/
abbrev refStep (c : Dev nD) (t : Fin 4) : Step := stepOf (refX m c) (refVol m c) (refF m c) (refC m c) t

variable {m}

theorem refIn {c : Dev nD} (h : ArgsIn (refX m c) (refVol m c) (refF m c) (refC m c)) :
    RefIn (refStep m c) (StableHlo.launchContents m c) where
  box := h.inBox
  hx _ _ _ := coe_of_finite (finite_of_box (h.box _ _ _ _))
  hx2 _ _ _ := coe_of_finite (finite_of_box (h.box _ _ _ _))
  hvol _ _ := coe_of_finite (h.vol _ _)
  hF _ _ _ := coe_of_finite (h.F _ _ _ _)
  hFn _ _ _ := coe_of_finite (h.F _ _ _ _)
  hC _ _ _ := coe_of_finite (h.C _ _ _ _)

theorem reference_run (ρ : Dev nD → PrngReg) (h : ∀ c : Dev nD, ArgsIn (refX m c) (refVol m c) (refF m c) (refC m c)) :
    θ_run (defs (F := Ideal)) (onTc (τ := τ) (main (F := Ideal))) ⟨m, fun _ => 0, ρ⟩ fun r => ∀ c : Dev nD,
      r.2.mem ((c.tc : Thread nD τ).loc main_v259)
          = (fun _ => (((∑ t, (refStep m c t).total) * 73728⁻¹ : ℝ) : EReal) : Vec Ideal S_ .f32)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ e c => ⟨(e c).1.trans (meanError_eq (refIn (h c))), (e c).2⟩) (run (F := Ideal) m ρ)

end Cert.Mpm

end
-- ==== Proof.Range.lean ====
/- What the precondition says: positions in the unit box, volumes and both fields finite. -/
module

public import proofs.«01_k».proof.Defs
public import proofs.«01_k».proof.Proof.Gen.Pre_in_range
public import proofs.«01_k».proof.Proof.Lift
public import proofs.«01_k».proof.Proof.Inputs

@[expose] public section

set_option maxRecDepth 16384

noncomputable section

namespace Cert.Mpm

open Idealize.ShloMosaic

theorem ofBits_inf : Ideal.ofBits .f32 0x7F800000#32 = (⊤ : EReal) := by
  simp [Ideal.ofBits, Ideal.ieee]

theorem finite_of_abs {y : EReal} (h : Ideal.cmp .olt (max y (-y)) (⊤ : EReal) = 1) : y ≠ ⊥ ∧ y ≠ ⊤ := by
  rw [Ideal.cmp_olt_eq_one] at h
  constructor
  · rintro rfl
    simp at h
  · rintro rfl
    simp at h

open Cert.Pre_in_range in
theorem argsIn_of_range (x : FVec Ideal S2x4x2048x3 .f32) (vol : FVec Ideal S2x2048 .f32) (F C : FVec Ideal S2x4x2048x9 .f32)
    (h0 : (fn (F := Ideal) x vol F C).1 = fun _ => 1#1) (h1 : (fn (F := Ideal) x vol F C).2.1 = fun _ => 1#1)
    (h2 : (fn (F := Ideal) x vol F C).2.2.1 = fun _ => 1#1) (h3 : (fn (F := Ideal) x vol F C).2.2.2.1 = fun _ => 1#1)
    (h4 : (fn (F := Ideal) x vol F C).2.2.2.2 = fun _ => 1#1) : ArgsIn x vol F C where
  box b t n a := by
    have e0 : Ideal.cmp .oge (x (ix4 b t n a)) (Ideal.ofBits .f32 0x00000000#32) = 1 := congrFun h0 (ix4 b t n a)
    have e1 : Ideal.cmp .olt (x (ix4 b t n a)) (Ideal.ofBits .f32 0x3F800000#32) = 1 := congrFun h1 (ix4 b t n a)
    rw [ofBits_zero, Ideal.cmp_oge_eq_one] at e0
    rw [ofBits_one, Ideal.cmp_olt_eq_one] at e1
    exact ⟨e0, e1⟩
  vol b n := by
    have e : Ideal.cmp .olt (max (vol (ix2 b n)) (-vol (ix2 b n))) (Ideal.ofBits .f32 0x7F800000#32) = 1 := congrFun h2 (ix2 b n)
    rw [ofBits_inf] at e
    exact finite_of_abs e
  F b t n j := by
    have e : Ideal.cmp .olt (max (F (ix4 b t n j)) (-F (ix4 b t n j))) (Ideal.ofBits .f32 0x7F800000#32) = 1 := congrFun h3 (ix4 b t n j)
    rw [ofBits_inf] at e
    exact finite_of_abs e
  C b t n j := by
    have e : Ideal.cmp .olt (max (C (ix4 b t n j)) (-C (ix4 b t n j))) (Ideal.ofBits .f32 0x7F800000#32) = 1 := congrFun h4 (ix4 b t n j)
    rw [ofBits_inf] at e
    exact finite_of_abs e

end Cert.Mpm

end
-- ==== Proof.lean ====
/- The claims of `Defs.lean`, put together: the three programs run, keep their arguments and leave every counter at
   zero; the idealized kernel differs from the kernel by one named constant; and on inputs in range the idealized kernel
   and the reference end with the same number, the mean error of the four steps (`Proof/Spec.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.KernelRun
public import proofs.«01_k».proof.Proof.RefRun
public import proofs.«01_k».proof.Proof.Range
public import Idealize.ShloMosaic.Adequacy
public import Idealize.ShloMosaic.Init

@[expose] public section

noncomputable section

namespace Cert.Proof

open Idealize.ShloMosaic Idealize.SL.Sem Cert.Mpm

/-- The reference runs, keeps its arguments and leaves every counter at zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On inputs in range the idealized kernel and the reference end with the same mean error. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  have hk : ∀ c, ArgsIn (argX m c) (argVol m c) (argF m c) (argC m c) := fun c =>
    argsIn_of_range _ _ _ _ (hpre c).1 (hpre c).2.1 (hpre c).2.2.1 (hpre c).2.2.2.1 (hpre c).2.2.2.2
  have ex : ∀ c, refX m' c = argX m c := fun c => (hargs c).1
  have ev : ∀ c, refVol m' c = argVol m c := fun c => (hargs c).2.1
  have eF : ∀ c, refF m' c = argF m c := fun c => (hargs c).2.2.1
  have eC : ∀ c, refC m' c = argC m c := fun c => (hargs c).2.2.2
  have hr : ∀ c, ArgsIn (refX m' c) (refVol m' c) (refF m' c) (refC m' c) := fun c => by
    rw [ex c, ev c, eF c, eC c]
    exact hk c
  refine ⟨fun c => (fun _ => (((∑ t, (devStep m c t).total) * 73728⁻¹ : ℝ) : EReal)), kernel_run g hk, ?_⟩
  refine (θ_run Cert.ReferenceIdeal.defs _ _).mono (fun r h c => ⟨(h c).1.trans ?_, (h c).2⟩) (reference_run g' hr)
  have es : refStep m' c = devStep m c := by
    funext t
    unfold refStep devStep
    rw [ex c, ev c, eF c, eC c]
  funext _
  rw [es]

theorem claim : Cert.Claim := ⟨Cert.Kernel.Gen.facts, Cert.KernelIdeal.Gen.facts, Cert.ReferenceIdeal.Gen.facts,
  Cert.Pre_in_range.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  IdealRules.named_const.statement _ _ _ _ _ rfl,
  algebraic⟩

end Cert.Proof

end
